-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing_KernelIdeal [hPre_finite_routing_KernelIdeal : Cert.Pre_finite_routing_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_routing_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing_ReferenceIdeal [hPre_finite_routing_ReferenceIdeal : Cert.Pre_finite_routing_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_routing_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_routing_KernelIdeal [hKernelIdeal : Cert.KernelIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_routing_ReferenceIdeal [hReferenceIdeal : Cert.ReferenceIdeal.Facts] [hPre_finite_routing_ReferenceIdeal : Cert.Pre_finite_routing_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_routing_KernelIdeal [hKernelIdeal : Cert.KernelIdeal.Facts] [hReferenceIdeal : Cert.ReferenceIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_routing_KernelIdeal : Cert.Pre_finite_routing_KernelIdeal.Facts) (hPre_finite_routing_ReferenceIdeal : Cert.Pre_finite_routing_ReferenceIdeal.Facts),
    quiescent_Kernel (hKernel := hKernel)
    ∧ quiescent_KernelIdeal (hKernelIdeal := hKernelIdeal)
    ∧ quiescent_KernelIdeal_pre_finite_routing_KernelIdeal (hKernelIdeal := hKernelIdeal) (hPre_finite_routing_KernelIdeal := hPre_finite_routing_KernelIdeal)
    ∧ quiescent_ReferenceIdeal (hReferenceIdeal := hReferenceIdeal)
    ∧ quiescent_ReferenceIdeal_pre_finite_routing_ReferenceIdeal (hReferenceIdeal := hReferenceIdeal) (hPre_finite_routing_ReferenceIdeal := hPre_finite_routing_ReferenceIdeal)
    ∧ preserves_Kernel_KernelIdeal
    ∧ algebraic_KernelIdeal_ReferenceIdeal_pre_finite_routing_KernelIdeal (hKernelIdeal := hKernelIdeal) (hReferenceIdeal := hReferenceIdeal) (hPre_finite_routing_KernelIdeal := hPre_finite_routing_KernelIdeal)
-- ==== Pre_finite_routing_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x1 32) (main_arg3 : FVec F S2x256x512 .f32) (main_arg4 : FVec F S256x512 .f32) : IVec S512x256 1 × IVec S256x16 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Pre_finite_routing_ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  bcast_S_S256x16 : S_.BroadcastsInDim S256x16 (![] : Fin 0 → Fin S256x16.rank)

variable [Facts]

def fn {F : FTy → Type} [FloatOps F] (main_arg0 : FVec F S4096x256 .f32) (main_arg1 : FVec F S256x16 .f32) (main_arg2 : IVec S4096x1 32) (main_arg3 : FVec F S16x256x512 .f32) (main_arg4 : FVec F S256x512 .f32) : IVec S4096x256 1 × IVec S256x16 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S512x4096 : Shape := ⟨2, ![512, 4096]⟩
abbrev S4x2x256x512 : Shape := ⟨4, ![4, 2, 256, 512]⟩
abbrev S3x2 : Shape := ⟨2, ![3, 2]⟩
abbrev S4x2 : Shape := ⟨2, ![4, 2]⟩
abbrev S_ : Shape := ⟨0, ![]⟩
abbrev S1x1 : Shape := ⟨2, ![1, 1]⟩
abbrev S1x1x256x512 : Shape := ⟨4, ![1, 1, 256, 512]⟩
abbrev S1x256x512 : Shape := ⟨3, ![1, 256, 512]⟩
abbrev S512x16 : Shape := ⟨2, ![512, 16]⟩
abbrev S512 : Shape := ⟨1, ![512]⟩
abbrev S512x1x256 : Shape := ⟨3, ![512, 1, 256]⟩
abbrev S512x16x1 : Shape := ⟨3, ![512, 16, 1]⟩
abbrev S512x16x256 : Shape := ⟨3, ![512, 16, 256]⟩
abbrev S1x2x256x512 : Shape := ⟨4, ![1, 2, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S2x256x512, .bf16⟩
  | .local _ .vmem, ⟨7, _⟩ => ⟨S512x4096, .bf16⟩
  | .local _ .vmem, ⟨8, _⟩ => ⟨S4x2x256x512, .bf16⟩
  | .local _ .vmem, ⟨9, _⟩ => ⟨S4x2x256x512, .bf16⟩
  | .local _ .vmem, ⟨10, _⟩ => ⟨S2x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_21 : BitVec 32 := 1#32
  let v25 : BitVec 32 := Scalar.muli v9 c1_i32_21
  let v26 : BitVec 32 := Scalar.addi c0_i32_22 v25
  v26.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_30 : BitVec 32 := 1#32
  let v27 : BitVec 32 := Scalar.muli v7 c1_i32_30
  let v28 : BitVec 32 := Scalar.addi c0_i32_31 v27
  v28.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_43 : BitVec 32 := 1#32
  let v37 : BitVec 32 := Scalar.muli v5 c1_i32_43
  let v38 : BitVec 32 := Scalar.addi c0_i32_44 v37
  v38.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_56 : BitVec 32 := 1#32
  let v47 : BitVec 32 := Scalar.muli v7 c1_i32_56
  let v48 : BitVec 32 := Scalar.addi c0_i32_57 v47
  v48.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_69 : BitVec 32 := 1#32
  let v57 : BitVec 32 := Scalar.muli v5 c1_i32_69
  let v58 : BitVec 32 := Scalar.addi c0_i32_70 v57
  v58.toNat
def k0_off1 (d0 : Dev nD) : Fin 2 → Nat :=
  let c0_89 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v102 : BitVec 32 := Scalar.muli v2 c2_i32
  let c256_i32 : BitVec 32 := 256#32
  let v103 : BitVec 32 := Scalar.muli v102 c256_i32
  let v104 : Index := Scalar.indexCast v103
  ![0, v104.toNat]
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_119 : BitVec 32 := 1#32
  let v121 : BitVec 32 := Scalar.muli v7 c1_i32_119
  let v122 : BitVec 32 := Scalar.addi c0_i32_120 v121
  v122.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_146 : BitVec 32 := 1#32
  let v139 : BitVec 32 := Scalar.muli v7 c1_i32_146
  let v140 : BitVec 32 := Scalar.addi c0_i32_147 v139
  v140.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_173 : BitVec 32 := 1#32
  let v157 : BitVec 32 := Scalar.muli v5 c1_i32_173
  let v158 : BitVec 32 := Scalar.addi c0_i32_174 v157
  v158.toNat
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_200 : BitVec 32 := 1#32
  let v175 : BitVec 32 := Scalar.muli v5 c1_i32_200
  let v176 : BitVec 32 := Scalar.addi c0_i32_201 v175
  v176.toNat
def k0_off2 (d0 : Dev nD) (c1_i32_206 : BitVec 32) : Fin 2 → Nat :=
  let c0_211 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v185 : BitVec 32 := Scalar.subi v2 c1_i32_206
  let c8_i32_207 : BitVec 32 := 8#32
  let v186 : BitVec 32 := Scalar.addi v185 c8_i32_207
  let c8_i32_208 : BitVec 32 := 8#32
  let v187 : BitVec 32 := Scalar.remsi v186 c8_i32_208
  let c2_i32_209 : BitVec 32 := 2#32
  let v188 : BitVec 32 := Scalar.muli v187 c2_i32_209
  let c256_i32_210 : BitVec 32 := 256#32
  let v189 : BitVec 32 := Scalar.muli v188 c256_i32_210
  let v190 : Index := Scalar.indexCast v189
  ![0, v190.toNat]
def k0_off3 (d0 : Dev nD) (c1_i32_220 : BitVec 32) : Fin 2 → Nat :=
  let c0_224 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c1_i32_220
  let c8_i32_221 : BitVec 32 := 8#32
  let v201 : BitVec 32 := Scalar.remsi v200 c8_i32_221
  let c2_i32_222 : BitVec 32 := 2#32
  let v202 : BitVec 32 := Scalar.muli v201 c2_i32_222
  let c256_i32_223 : BitVec 32 := 256#32
  let v203 : BitVec 32 := Scalar.muli v202 c256_i32_223
  let v204 : Index := Scalar.indexCast v203
  ![0, v204.toNat]
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_256 : BitVec 32 := 1#32
  let v222 : BitVec 32 := Scalar.muli v7 c1_i32_256
  let v223 : BitVec 32 := Scalar.addi c0_i32_257 v222
  v223.toNat
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_284 : BitVec 32 := 1#32
  let v240 : BitVec 32 := Scalar.muli v7 c1_i32_284
  let v241 : BitVec 32 := Scalar.addi c0_i32_285 v240
  v241.toNat
def k0_dev15 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_312 : BitVec 32 := 1#32
  let v258 : BitVec 32 := Scalar.muli v5 c1_i32_312
  let v259 : BitVec 32 := Scalar.addi c0_i32_313 v258
  v259.toNat
def k0_dev16 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_340 : BitVec 32 := 1#32
  let v276 : BitVec 32 := Scalar.muli v5 c1_i32_340
  let v277 : BitVec 32 := Scalar.addi c0_i32_341 v276
  v277.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S4096x16 : Shape := ⟨2, ![4096, 16]⟩
abbrev S_ : Shape := ⟨0, ![]⟩
abbrev S4096 : Shape := ⟨1, ![4096]⟩
abbrev S4096x512 : Shape := ⟨2, ![4096, 512]⟩
abbrev S4096x2 : Shape := ⟨2, ![4096, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S4096x256x512 : Shape := ⟨3, ![4096, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x1, .i32⟩
  | .hbm, ⟨3, _⟩ => ⟨S16x256x512, .f32⟩
  | .hbm, ⟨4, _⟩ => ⟨S256x512, .f32⟩
  | .hbm, ⟨5, _⟩ => ⟨S4096x16, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x16, .f32⟩
  | .hbm, ⟨16, _⟩ => ⟨S4096x16, .f32⟩
  | .hbm, ⟨17, _⟩ => ⟨S4096x512, .f32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x1, .i32⟩
  | .hbm, ⟨22, _⟩ => ⟨S4096x2, .i32⟩
  | .hbm, ⟨23, _⟩ => ⟨S2, .i32⟩
  | .hbm, ⟨24, _⟩ => ⟨S_, .i32⟩
  | .hbm, ⟨25, _⟩ => ⟨S4096x2, .i32⟩
  | .hbm, ⟨26, _⟩ => ⟨S4096x2, .i1⟩
  | .hbm, ⟨27, _⟩ => ⟨S1x2, .i32⟩
  | .hbm, ⟨28, _⟩ => ⟨S4096x2, .i32⟩
  | .hbm, ⟨29, _⟩ => ⟨S4096x2, .i1⟩
  | .hbm, ⟨30, _⟩ => ⟨S4096x2, .i1⟩
  | .hbm, ⟨31, _⟩ => ⟨S_, .i1⟩
  | .hbm, ⟨32, _⟩ => ⟨S4096, .i1⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096x256x512, .f32⟩
  | .hbm, ⟨49, _⟩ => ⟨S4096x256x512, .i1⟩
  | .hbm, ⟨50, _⟩ => ⟨S_, .f32⟩
  | .hbm, ⟨51, _⟩ => ⟨S4096x256x512, .f32⟩
  | .hbm, ⟨52, _⟩ => ⟨S4096x256x512, .f32⟩
  | .hbm, ⟨53, _⟩ => ⟨S4096x512, .f32⟩
  | .hbm, ⟨54, _⟩ => ⟨S4096x1, .f32⟩
  | .hbm, ⟨55, _⟩ => ⟨S4096x512, .f32⟩
  | .hbm, ⟨56, _⟩ => ⟨S4096x512, .f32⟩
  | .hbm, ⟨57, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Routing.lean ====
/-
  One token's row, in the extended reals: the router's probabilities of its sixteen experts, what the kernel adds up for the token and what
  the reference computes for it, and that the two agree when the token and the router's matrix are real.
-/
module

public import Idealize.ShloMosaic.PureOps.Ideal.Laws

@[expose] public section

noncomputable section

namespace Cert.Routing

open Idealize.ShloMosaic
open scoped BigOperators

/-- The value is a real number: neither infinity. -/
def IsReal (a : EReal) : Prop := ∃ r : ℝ, a = (r : EReal)

/-- The router's score of expert e for the token x. -/
def score (x : Fin 256 → EReal) (w : Fin 256 → Fin 16 → EReal) (e : Fin 16) : EReal := ∑ k, x k * w k e

/-- The largest score. -/
def top (s : Fin 16 → EReal) : EReal := Finset.univ.fold max (Ideal.ofBits .f32 0xFF800000#32) s

/-- The exponential of a score, less the largest one. -/
def weight (s : Fin 16 → EReal) (e : Fin 16) : EReal := Ideal.exp (s e - top s)

/-- The probability of expert e. -/
def prob (s : Fin 16 → EReal) (e : Fin 16) : EReal := Ideal.div (weight s e) (∑ e', weight s e')

/-- The expert's own gate: its probability if the token is routed to it, zero otherwise. -/
def gate (s : Fin 16 → EReal) (r : BitVec 32) (e : Fin 16) : EReal := if r = BitVec.ofNat 32 e.val then prob s e else 0

/-- What the kernel adds up for one token and one output column: the shared expert, then every expert's product with the gated token. -/
def kernelRow (x : Fin 256 → EReal) (w : Fin 256 → Fin 16 → EReal) (r : BitVec 32) (W : Fin 16 → Fin 256 → EReal) (S : Fin 256 → EReal) : EReal :=
  (∑ k, x k * S k) + ∑ e : Fin 16, ∑ k : Fin 256, (x k * gate (score x w) r e) * W e k

/-- Entry r of a list of sixteen, zero where r names none of them. -/
def look (g : Fin 16 → EReal) (r : BitVec 32) : EReal := if h : r.toNat < 16 then g ⟨r.toNat, h⟩ else 0

/-- What the reference computes for it: the shared expert, then the probability of the token's expert times that expert's product. -/
def referenceRow (x : Fin 256 → EReal) (w : Fin 256 → Fin 16 → EReal) (r : BitVec 32) (W : Fin 16 → Fin 256 → EReal) (S : Fin 256 → EReal) : EReal :=
  (∑ k, x k * S k) + look (prob (score x w)) r * ∑ k : Fin 256, x k * look (fun e => W e k) r

/-! ## Real numbers stay real -/

theorem IsReal.add {a b : EReal} : IsReal a → IsReal b → IsReal (a + b) := by
  rintro ⟨r, rfl⟩ ⟨q, rfl⟩; exact ⟨r + q, (EReal.coe_add r q).symm⟩

theorem IsReal.mul {a b : EReal} : IsReal a → IsReal b → IsReal (a * b) := by
  rintro ⟨r, rfl⟩ ⟨q, rfl⟩; exact ⟨r * q, (EReal.coe_mul r q).symm⟩

theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

/-- A sum of reals, taken in the extended reals. -/
theorem sum_coe {ι : Type} (s : Finset ι) (q : ι → ℝ) : (∑ i ∈ s, (q i : EReal)) = ((∑ i ∈ s, q i : ℝ) : EReal) := by
  classical
  induction s using Finset.induction_on with
  | empty => rw [Finset.sum_empty, Finset.sum_empty, EReal.coe_zero]
  | insert i s hi ih => rw [Finset.sum_insert hi, Finset.sum_insert hi, EReal.coe_add, ih]

theorem isReal_of_ne {a : EReal} (h1 : a ≠ ⊤) (h2 : a ≠ ⊥) : IsReal a := ⟨a.toReal, (EReal.coe_toReal h1 h2).symm⟩

theorem score_real (x : Fin 256 → EReal) (w : Fin 256 → Fin 16 → EReal) (hx : ∀ k, IsReal (x k)) (hw : ∀ k e, IsReal (w k e)) (e : Fin 16) :
    IsReal (score x w e) := IsReal.sum _ _ fun k => (hx k).mul (hw k e)

/-- The word the maximum starts from is minus infinity. -/
theorem ofBits_bottom : Ideal.ofBits .f32 0xFF800000#32 = ⊥ := by simp [Ideal.ofBits, Ideal.ieee]

theorem top_real (s : Fin 16 → EReal) (hs : ∀ e, IsReal (s e)) : IsReal (top s) := by
  unfold top
  rw [ofBits_bottom]
  refine isReal_of_ne (ne_of_lt ((Finset.fold_max_lt ⊤).2 ⟨bot_lt_top, fun e _ => ?_⟩)) (ne_of_gt ((Finset.lt_fold_max ⊥).2 (Or.inr ⟨0, Finset.mem_univ _, ?_⟩)))
  · obtain ⟨r, h⟩ := hs e; rw [h]; exact EReal.coe_lt_top r
  · obtain ⟨r, h⟩ := hs 0; rw [h]; exact EReal.bot_lt_coe r

/-- The exponentials are real and positive. -/
theorem weight_pos (s : Fin 16 → EReal) (hs : ∀ e, IsReal (s e)) (e : Fin 16) : ∃ r : ℝ, 0 < r ∧ weight s e = (r : EReal) := by
  obtain ⟨t, ht⟩ := top_real s hs
  obtain ⟨r, hr⟩ := hs e
  refine ⟨Real.exp (r - t), Real.exp_pos _, ?_⟩
  unfold weight
  rw [ht, hr, ← EReal.coe_sub]
  rfl

/-- The probabilities are real and not negative. -/
theorem prob_real (s : Fin 16 → EReal) (hs : ∀ e, IsReal (s e)) (e : Fin 16) : 0 ≤ prob s e ∧ prob s e ≠ ⊤ := by
  choose q hq hw using weight_pos s hs
  have hsum : (∑ e', weight s e') = ((∑ e', q e' : ℝ) : EReal) := by
    rw [Finset.sum_congr rfl fun e' _ => hw e']
    exact sum_coe _ q
  have hp : 0 < ∑ e', q e' := Finset.sum_pos (fun e' _ => hq e') ⟨0, Finset.mem_univ _⟩
  have h : prob s e = ((q e * (∑ e', q e')⁻¹ : ℝ) : EReal) := by
    unfold prob Ideal.div
    rw [hsum, if_neg (by exact_mod_cast ne_of_gt hp), hw e, EReal.coe_mul, EReal.coe_inv]
  rw [h]
  exact ⟨by exact_mod_cast mul_nonneg (hq e).le (inv_nonneg.2 hp.le), EReal.coe_ne_top _⟩

/-! ## The equation -/

/-- A real factor that is not negative goes into a sum of any extended reals. -/
theorem mul_sum_of_nonneg {ι : Type} (p : EReal) (h0 : 0 ≤ p) (ht : p ≠ ⊤) (s : Finset ι) (f : ι → EReal) : p * ∑ i ∈ s, f i = ∑ i ∈ s, p * f i := by
  classical
  induction s using Finset.induction_on with
  | empty => rw [Finset.sum_empty, Finset.sum_empty, mul_zero]
  | insert i s hi ih => rw [Finset.sum_insert hi, Finset.sum_insert hi, EReal.left_distrib_of_nonneg_of_ne_top h0 ht, ih]

/-- A token is routed to at most one expert. -/
theorem hit_unique {r : BitVec 32} {e e' : Fin 16} (h : r = BitVec.ofNat 32 e.val) (h' : r = BitVec.ofNat 32 e'.val) : e = e' := by
  rw [h] at h'
  have := congrArg BitVec.toNat h'
  rw [BitVec.toNat_ofNat, BitVec.toNat_ofNat] at this
  have := e.isLt; have := e'.isLt
  exact Fin.ext (by omega)

/-- The kernel's row and the reference's agree, for a real token and a real router's matrix, whatever the experts hold. -/
theorem rows_agree (x : Fin 256 → EReal) (w : Fin 256 → Fin 16 → EReal) (r : BitVec 32) (W : Fin 16 → Fin 256 → EReal) (S : Fin 256 → EReal)
    (hx : ∀ k, IsReal (x k)) (hw : ∀ k e, IsReal (w k e)) : kernelRow x w r W S = referenceRow x w r W S := by
  have hp := prob_real _ (score_real x w hx hw)
  unfold kernelRow referenceRow
  refine congrArg (_ + ·) ?_
  by_cases h : r.toNat < 16
  · have he : r = BitVec.ofNat 32 (⟨r.toNat, h⟩ : Fin 16).val := by simp
    have hl : ∀ g : Fin 16 → EReal, look g r = g ⟨r.toNat, h⟩ := fun g => dif_pos h
    simp only [hl]
    generalize (⟨r.toNat, h⟩ : Fin 16) = e at he
    have g1 : gate (score x w) r e = prob (score x w) e := if_pos he
    have g0 : ∀ e', e' ≠ e → gate (score x w) r e' = 0 := fun e' hne => if_neg fun h' => hne (hit_unique h' he)
    rw [Finset.sum_eq_single e (fun e' _ hne => by simp only [g0 e' hne, mul_zero, zero_mul, Finset.sum_const_zero]) (fun h => absurd (Finset.mem_univ _) h), g1,
      mul_sum_of_nonneg _ (hp e).1 (hp e).2]
    exact Finset.sum_congr rfl fun k _ => by rw [mul_comm (x k), mul_assoc]
  · have g0 : ∀ e' : Fin 16, gate (score x w) r e' = 0 := fun e' => if_neg fun h' => h (by
      rw [h', BitVec.toNat_ofNat]
      have := e'.isLt
      omega)
    have hl : look (prob (score x w)) r = 0 := dif_neg h
    simp only [g0, hl, mul_zero, zero_mul, Finset.sum_const_zero]

end Cert.Routing

end
-- ==== Proof.Finite.lean ====
/-
  The precondition, read: every entry of the tokens and of the router's matrix is a real number.
-/
module

public import proofs.«01_k».proof.Defs
public import proofs.«01_k».proof.Proof.Routing
public import Idealize.ShloMosaic.Lib.ValueIdx
public import Idealize.ShloMosaic.Lib.Pipeline.Value

@[expose] public section

noncomputable section

namespace Cert.Finite

open Cert.Routing Idealize.ShloMosaic Idealize.ShloMosaic.TcCoe

/-- The shapes of one device's predicate fit. -/
theorem facts_kernel : Cert.Pre_finite_routing_KernelIdeal.Facts := ⟨by decide, by decide⟩

/-- The shapes of the predicate on whole arrays fit. -/
theorem facts_reference : Cert.Pre_finite_routing_ReferenceIdeal.Facts := ⟨by decide, by decide⟩

theorem ofBits_top : Ideal.ofBits .f32 0x7F800000#32 = ⊤ := by simp [Ideal.ofBits, Ideal.ieee]

/-- An extended real whose absolute value is below infinity is a real. -/
theorem real_of_below {a : EReal} (h : Ideal.cmp .olt (max a (-a)) (Ideal.ofBits .f32 0x7F800000#32) = 1#1) : IsReal a := by
  have h' : max a (-a) < ⊤ := by
    rw [ofBits_top] at h
    by_contra hn
    have hz : Ideal.cmp .olt (max a (-a)) ⊤ = BitVec.ofBool (decide (max a (-a) < ⊤)) := rfl
    rw [hz, decide_eq_false hn] at h
    exact absurd h (by decide)
  refine isReal_of_ne (fun ht => ?_) (fun hb => ?_)
  · rw [ht] at h'; exact absurd h' (not_lt.2 (le_max_left _ _))
  · rw [hb, EReal.neg_bot] at h'; exact absurd h' (not_lt.2 (le_max_right _ _))

/-- Under the precondition every entry of a device's tokens and of its router matrix is a real. -/
theorem reals (m : (ℓ : Loc Cert.KernelIdeal.nD Cert.KernelIdeal.τ Cert.KernelIdeal.sig) → Buf (Elt Ideal) ℓ)
    (h : Cert.Pre_KernelIdeal_finite_routing_KernelIdeal (hPre_finite_routing_KernelIdeal := facts_kernel) m) (c : Dev Cert.KernelIdeal.nD) :
    (∀ j : Cert.KernelIdeal.S512x256.Idx, IsReal ((m ((c.tc : Thread Cert.KernelIdeal.nD Cert.KernelIdeal.τ).loc Cert.KernelIdeal.main_arg0) : Cert.KernelIdeal.S512x256.Idx → EReal) j))
      ∧ ∀ j : Cert.KernelIdeal.S256x16.Idx, IsReal ((m ((c.tc : Thread Cert.KernelIdeal.nD Cert.KernelIdeal.τ).loc Cert.KernelIdeal.main_arg1) : Cert.KernelIdeal.S256x16.Idx → EReal) j) := by
  obtain ⟨h0, h1⟩ := h c
  exact ⟨fun j => real_of_below (congrFun h0 j), fun j => real_of_below (congrFun h1 j)⟩

end Cert.Finite

end
-- ==== Proof.Protocol.lean ====
/-
  The protocol of the kernel: which copies there are, what each of them carries, and the schedule of the semaphore cells.

  Eight devices form a ring. Device `c` keeps its own pair of experts in `cc0_scratch0`, sends the pair clockwise (to device `c + 1`) and
  counter-clockwise (to device `c - 1`) in halves, one expert per copy, forwards what it receives for two more hops in each direction, and sends the
  pair whole to the device `c + 4` on the other side of the ring. In all a device starts thirteen copies and receives thirteen.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

/-! ## The copies -/

/-- The copies a device starts: expert `k` clockwise or counter-clockwise at hop `h`, and the pair whole across the ring. -/
inductive Cp where
  | cw (h : Fin 3) (k : Fin 2)
  | ccw (h : Fin 3) (k : Fin 2)
  | z
deriving DecidableEq

/-- The copies, in the order of their first use by the program text. -/
abbrev allCp : List Cp :=
  [.z, .cw 0 0, .ccw 0 0, .cw 0 1, .ccw 0 1, .cw 1 0, .cw 1 1, .ccw 1 0, .ccw 1 1, .cw 2 0, .cw 2 1, .ccw 2 0, .ccw 2 1]

theorem allCp_nodup : allCp.Nodup := by decide

instance : Fintype Cp := ⟨allCp.toFinset, fun j => by
  cases j with
  | cw h k => fin_cases h <;> fin_cases k <;> decide
  | ccw h k => fin_cases h <;> fin_cases k <;> decide
  | z => decide⟩

/-- The direction a copy travels in: 0 clockwise, 1 counter-clockwise, 2 across. -/
def way : Cp → Fin 3
  | .cw _ _ => 0
  | .ccw _ _ => 1
  | .z => 2

/-- The device one step from `c` in direction `w`. -/
def go (w : Fin 3) (c : Dev nD) : Dev nD :=
  match w with
  | 0 => ⟨(c.val + 1) % 8, Nat.mod_lt _ (by decide)⟩
  | 1 => ⟨(c.val + 7) % 8, Nat.mod_lt _ (by decide)⟩
  | 2 => ⟨(c.val + 4) % 8, Nat.mod_lt _ (by decide)⟩

/-- The opposite direction. -/
def opp : Fin 3 → Fin 3
  | 0 => 1
  | 1 => 0
  | 2 => 2

theorem go_opp_go : ∀ (w : Fin 3) (c : Dev nD), go (opp w) (go w c) = c := by decide
theorem go_go_opp : ∀ (w : Fin 3) (c : Dev nD), go w (go (opp w) c) = c := by decide
theorem opp_opp : ∀ w : Fin 3, opp (opp w) = w := by decide

/-- A step in direction `w`, as a permutation of the devices. -/
def goE (w : Fin 3) : Dev nD ≃ Dev nD := ⟨go w, go (opp w), go_opp_go w, go_go_opp w⟩

/-- The copies that travel in direction `w`. -/
def jsOf : Fin 3 → List Cp
  | 0 => [.cw 0 0, .cw 0 1, .cw 1 0, .cw 1 1, .cw 2 0, .cw 2 1]
  | 1 => [.ccw 0 0, .ccw 0 1, .ccw 1 0, .ccw 1 1, .ccw 2 0, .ccw 2 1]
  | 2 => [.z]

theorem way_of_mem : ∀ w : Fin 3, ∀ j ∈ jsOf w, way j = w := by decide

/-! ## The semaphores -/

abbrev barA : Sems sig S_ := SemArray.scalar (sig.barrier 0 rfl)
abbrev barS : Sem sig := barA.sem
abbrev bar : SemLoc sig := .reg barS

/-- The DMA semaphore that counts copy `j` out at its sender. -/
def sendD : Cp → DmaSem sig
  | .cw 0 0 => 6 | .cw 0 1 => 7 | .cw 1 0 => 8 | .cw 1 1 => 9 | .cw 2 0 => 10 | .cw 2 1 => 11
  | .ccw 0 0 => 20 | .ccw 0 1 => 21 | .ccw 1 0 => 22 | .ccw 1 1 => 23 | .ccw 2 0 => 24 | .ccw 2 1 => 25
  | .z => 34

/-- The DMA semaphore that counts copy `j` in at its receiver. -/
def recvD : Cp → DmaSem sig
  | .cw 0 0 => 14 | .cw 0 1 => 15 | .cw 1 0 => 16 | .cw 1 1 => 17 | .cw 2 0 => 18 | .cw 2 1 => 19
  | .ccw 0 0 => 28 | .ccw 0 1 => 29 | .ccw 1 0 => 30 | .ccw 1 1 => 31 | .ccw 2 0 => 32 | .ccw 2 1 => 33
  | .z => 35

/-- What a DMA semaphore is used for: `(true, j)` counts copy `j` out, `(false, j)` counts it in. -/
def role (s : DmaSem sig) : Option (Bool × Cp) :=
  match s.val with
  | 6 => some (true, .cw 0 0) | 7 => some (true, .cw 0 1) | 8 => some (true, .cw 1 0) | 9 => some (true, .cw 1 1)
  | 10 => some (true, .cw 2 0) | 11 => some (true, .cw 2 1)
  | 20 => some (true, .ccw 0 0) | 21 => some (true, .ccw 0 1) | 22 => some (true, .ccw 1 0) | 23 => some (true, .ccw 1 1)
  | 24 => some (true, .ccw 2 0) | 25 => some (true, .ccw 2 1)
  | 34 => some (true, .z)
  | 14 => some (false, .cw 0 0) | 15 => some (false, .cw 0 1) | 16 => some (false, .cw 1 0) | 17 => some (false, .cw 1 1)
  | 18 => some (false, .cw 2 0) | 19 => some (false, .cw 2 1)
  | 28 => some (false, .ccw 0 0) | 29 => some (false, .ccw 0 1) | 30 => some (false, .ccw 1 0) | 31 => some (false, .ccw 1 1)
  | 32 => some (false, .ccw 2 0) | 33 => some (false, .ccw 2 1)
  | 35 => some (false, .z)
  | _ => none

theorem role_sendD : ∀ j, role (sendD j) = some (true, j) := by decide
theorem role_recvD : ∀ j, role (recvD j) = some (false, j) := by decide

abbrev barCell (c : Dev nD) : GSem nD τ sig := ((c : Thread nD τ), bar)
abbrev sendCell (c : Dev nD) (j : Cp) : GSem nD τ sig := ((c : Thread nD τ), .dma (sendD j))
abbrev recvCell (c : Dev nD) (j : Cp) : GSem nD τ sig := ((c : Thread nD τ), .dma (recvD j))

/-! ## The buffers -/

abbrev xM : Memref sig .tc .vmem S512x256 .f32 := Memref.whole cc0_stg0_0
abbrev rwM : Memref sig .tc .vmem S256x16 .f32 := Memref.whole cc0_stg1_0
abbrev idxM : Memref sig .tc .vmem S512x1 .i32 := Memref.whole cc0_stg2_0
abbrev ewM : Memref sig .tc .vmem S2x256x512 .f32 := Memref.whole cc0_stg3_0
abbrev swM : Memref sig .tc .vmem S256x512 .f32 := Memref.whole cc0_stg4_0
abbrev outM : Memref sig .tc .vmem S512x512 .f32 := Memref.whole cc0_stg5_0
abbrev ewbM : Memref sig .tc .vmem S2x256x512 .bf16 := Memref.whole cc0_scratch0
abbrev xgM : Memref sig .tc .vmem S512x4096 .bf16 := Memref.whole cc0_scratch1
abbrev cwM : Memref sig .tc .vmem S4x2x256x512 .bf16 := Memref.whole cc0_scratch2
abbrev ccwM : Memref sig .tc .vmem S4x2x256x512 .bf16 := Memref.whole cc0_scratch3
abbrev zM : Memref sig .tc .vmem S2x256x512 .bf16 := Memref.whole cc0_scratch4

/-- Slot `(r, k)` of a ring buffer. -/
abbrev slotR (r : Fin 4) (k : Fin 2) : Rect S4x2x256x512 :=
  Rect.unit (s := S4x2x256x512) ![r.val, k.val, 0, 0] S1x1x256x512.size (by revert r k; decide)
/-- Row `r` of a ring buffer: both slots of it. -/
abbrev rowR (r : Fin 4) : Rect S4x2x256x512 :=
  Rect.unit (s := S4x2x256x512) ![r.val, 0, 0, 0] S1x2x256x512.size (by revert r; decide)
/-- Half `k` of the device's own pair. -/
abbrev halfR (k : Fin 2) : Rect S2x256x512 :=
  Rect.unit (s := S2x256x512) ![k.val, 0, 0] S1x256x512.size (by revert k; decide)

/-- The elements of slot `(r, k)`, of row `r`, and of half `k`. -/
abbrev slotS (r : Fin 4) (k : Fin 2) : Finset S4x2x256x512.Idx := (slotR r k).set
abbrev rowS (r : Fin 4) : Finset S4x2x256x512.Idx := (rowR r).set
abbrev halfS (k : Fin 2) : Finset S2x256x512.Idx := (halfR k).set

theorem mem_slotS {r : Fin 4} {k : Fin 2} {i : S4x2x256x512.Idx} : i ∈ slotS r k ↔ (i 0).val = r.val ∧ (i 1).val = k.val := by
  rw [Rect.mem_set_unit]
  have h2 : (i 2).val < 256 := (i 2).isLt
  have h3 : (i 3).val < 512 := (i 3).isLt
  constructor
  · intro h
    have h0 := h 0; have h1 := h 1
    simp only [Matrix.cons_val_zero, Matrix.cons_val_one, S1x1x256x512] at h0 h1
    omega
  · rintro ⟨h0, h1⟩ a
    fin_cases a <;> simp [S1x1x256x512] <;> omega

theorem mem_rowS {r : Fin 4} {i : S4x2x256x512.Idx} : i ∈ rowS r ↔ (i 0).val = r.val := by
  rw [Rect.mem_set_unit]
  have h1 : (i 1).val < 2 := (i 1).isLt
  have h2 : (i 2).val < 256 := (i 2).isLt
  have h3 : (i 3).val < 512 := (i 3).isLt
  constructor
  · intro h
    have h0 := h 0
    simp only [Matrix.cons_val_zero, S1x2x256x512] at h0
    omega
  · rintro h0 a
    fin_cases a <;> simp [S1x2x256x512] <;> omega

theorem mem_halfS {k : Fin 2} {i : S2x256x512.Idx} : i ∈ halfS k ↔ (i 0).val = k.val := by
  rw [Rect.mem_set_unit]
  have h2 : (i 1).val < 256 := (i 1).isLt
  have h3 : (i 2).val < 512 := (i 2).isLt
  constructor
  · intro h
    have h0 := h 0
    simp only [Matrix.cons_val_zero, S1x256x512] at h0
    omega
  · rintro h0 a
    fin_cases a <;> simp [S1x256x512] <;> omega

theorem slotS_union (r : Fin 4) : slotS r 0 ∪ slotS r 1 = rowS r := by
  ext i
  have h1 : (i 1).val < 2 := (i 1).isLt
  rw [Finset.mem_union, mem_slotS, mem_slotS, mem_rowS]
  simp only [Fin.val_zero, Fin.val_one]; omega

theorem slotS_disjoint {r r' : Fin 4} {k k' : Fin 2} (h : (r, k) ≠ (r', k')) : Disjoint (slotS r k) (slotS r' k') := by
  rw [Finset.disjoint_left]
  intro i hi hi'
  rw [mem_slotS] at hi hi'
  exact h (Prod.ext (Fin.ext (hi.1.symm.trans hi'.1)) (Fin.ext (hi.2.symm.trans hi'.2)))

theorem halfS_union : halfS 0 ∪ halfS 1 = Finset.univ := by
  ext i
  have h1 : (i 0).val < 2 := (i 0).isLt
  rw [Finset.mem_union, mem_halfS, mem_halfS]
  simp only [Fin.val_zero, Fin.val_one, Finset.mem_univ, iff_true]; omega

theorem halfS_disjoint : Disjoint (halfS 0) (halfS 1) := by
  rw [Finset.disjoint_left]
  intro i hi hi'
  rw [mem_halfS] at hi hi'
  rw [hi] at hi'; exact absurd hi' (by decide)

end Cert.KernelIdeal.Ring

end
-- ==== Proof.Schedule.lean ====
/-
  The schedule of the semaphore cells: who pays a cell, how much, and what the payment hands over; and the dues and levels of a device.

  Every cell has one round. The barrier cell of device `c` is paid one unit by each of its three partners; the partner in direction `w` hands over the
  slots of its own memory that the copies of `c` in direction `w` will land in. A sending semaphore is paid by the copy itself and hands the lent share of
  the source back; a receiving semaphore is paid by the copy and hands over the filled slot.
-/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The contents of a device's pair of experts in the narrow format. -/
abbrev Pair (F : FTy → Type) : Type := S2x256x512.Idx → Elt F .bf16

variable (E : Dev nD → Pair F)

/-! ## What the buffers hold -/

/-- The device `r` steps counter-clockwise of `c`. -/
def before (c : Dev nD) (r : ℕ) : Dev nD := ⟨(c.val + 7 * r) % 8, Nat.mod_lt _ (by decide)⟩
/-- The device `r` steps clockwise of `c`. -/
def beyond (c : Dev nD) (r : ℕ) : Dev nD := ⟨(c.val + r) % 8, Nat.mod_lt _ (by decide)⟩

/-- The clockwise buffer of device `c` once filled: row `r` is the pair of the device `r` steps before it. -/
def cwBuf (c : Dev nD) : S4x2x256x512.Idx → Elt F .bf16 := fun i => E (before c (i 0).val) (ix3 (i 1) (i 2) (i 3))
/-- The counter-clockwise buffer of device `c` once filled: row `r` is the pair of the device `r` steps beyond it. -/
def ccwBuf (c : Dev nD) : S4x2x256x512.Idx → Elt F .bf16 := fun i => E (beyond c (i 0).val) (ix3 (i 1) (i 2) (i 3))

theorem before_succ : ∀ (h : Fin 3) (c : Dev nD), before (go 0 c) h.succ.val = before c h.castSucc.val := by decide
theorem beyond_succ : ∀ (h : Fin 3) (c : Dev nD), beyond (go 1 c) h.succ.val = beyond c h.castSucc.val := by decide
theorem before_zero : ∀ c : Dev nD, before c 0 = c := by decide
theorem beyond_zero : ∀ c : Dev nD, beyond c 0 = c := by decide

/-! ## The pieces of memory that travel -/

/-- The parts of the pair's full share: one for the copy across, one for the clockwise and one for the counter-clockwise copies, and one kept. -/
abbrev shZ : PosShare TreeShare := fullShare.left.left
abbrev shKeep : PosShare TreeShare := fullShare.left.right
abbrev shCw : PosShare TreeShare := fullShare.right.left
abbrev shCcw : PosShare TreeShare := fullShare.right.right

/-- The filled slot that copy `j` leaves on device `c`. -/
def landed (c : Dev nD) : Cp → sProp 𝕄
  | .cw h k => ((c : Thread nD τ).loc cc0_scratch2) ↦[slotS h.succ k]{fullShare} (cwBuf E c)
  | .ccw h k => ((c : Thread nD τ).loc cc0_scratch3) ↦[slotS h.succ k]{fullShare} (ccwBuf E c)
  | .z => ((c : Thread nD τ).loc cc0_scratch4) ↦[Finset.univ]{fullShare} (E (go 2 c))

/-- The slot that copy `j` will fill on device `c`, whatever it holds. -/
def hole (c : Dev nD) : Cp → sProp 𝕄
  | .cw h k => iprop(∃ f : Buf (Elt F) ((c : Thread nD τ).loc cc0_scratch2), ((c : Thread nD τ).loc cc0_scratch2) ↦[slotS h.succ k]{fullShare} f)
  | .ccw h k => iprop(∃ f : Buf (Elt F) ((c : Thread nD τ).loc cc0_scratch3), ((c : Thread nD τ).loc cc0_scratch3) ↦[slotS h.succ k]{fullShare} f)
  | .z => iprop(∃ f : Buf (Elt F) ((c : Thread nD τ).loc cc0_scratch4), ((c : Thread nD τ).loc cc0_scratch4) ↦[Finset.univ]{fullShare} f)

/-- The share of its source that device `c` lends to copy `j`. -/
def lent (c : Dev nD) : Cp → sProp 𝕄
  | .cw h k =>
    if h = 0 then ((c : Thread nD τ).loc cc0_scratch0) ↦[halfS k]{shCw} (E c)
    else ((c : Thread nD τ).loc cc0_scratch2) ↦[slotS h.castSucc k]{fullShare.left} (cwBuf E c)
  | .ccw h k =>
    if h = 0 then ((c : Thread nD τ).loc cc0_scratch0) ↦[halfS k]{shCcw} (E c)
    else ((c : Thread nD τ).loc cc0_scratch3) ↦[slotS h.castSucc k]{fullShare.left} (ccwBuf E c)
  | .z => ((c : Thread nD τ).loc cc0_scratch0) ↦[Finset.univ]{shZ} (E c)

instance landed_storable (c : Dev nD) (j : Cp) : BI.Storable (upEmb : UEmb _ 𝕄) (landed E c j) := by
  cases j <;> (unfold landed; infer_instance)
instance hole_storable (c : Dev nD) (j : Cp) : BI.Storable (upEmb : UEmb _ 𝕄) (hole (F := F) c j) := by
  cases j <;> (unfold hole; infer_instance)
instance lent_storable (c : Dev nD) (j : Cp) : BI.Storable (upEmb : UEmb _ 𝕄) (lent E c j) := by
  cases j <;> (unfold lent; (repeat' split) <;> infer_instance)

/-! ## Separating conjunctions over a list -/

/-- The separating conjunction of `Φ` over a list. -/
def sepL {ι : Type} (Φ : ι → sProp 𝕄) : List ι → sProp 𝕄
  | [] => iprop(emp)
  | a :: l => iprop(Φ a ∗ sepL Φ l)

theorem sepL_nil {ι : Type} (Φ : ι → sProp 𝕄) : sepL Φ [] = iprop(emp) := rfl
theorem sepL_cons {ι : Type} (Φ : ι → sProp 𝕄) (a : ι) (l : List ι) : sepL Φ (a :: l) = iprop(Φ a ∗ sepL Φ l) := rfl

instance sepL_storable {ι : Type} (Φ : ι → sProp 𝕄) [∀ a, BI.Storable (upEmb : UEmb _ 𝕄) (Φ a)] (l : List ι) :
    BI.Storable (upEmb : UEmb _ 𝕄) (sepL Φ l) := by
  induction l with
  | nil => unfold sepL; infer_instance
  | cons a l ih => unfold sepL; infer_instance

/-- The conjunction does not depend on the order of the list. -/
theorem sepL_perm {ι : Type} (Φ : ι → sProp 𝕄) {l l' : List ι} (h : l.Perm l') : sepL Φ l ⊢ sepL Φ l' := by
  induction h with
  | nil => exact BI.Entails.refl _
  | cons a _ ih => rw [sepL_cons, sepL_cons]; exact sep_mono_right ih
  | swap a b l =>
    simp only [sepL_cons]
    iintro ⟨H1, H2, H3⟩
    isplitl [H2]; · iexact H2
    isplitl [H1] <;> iassumption
  | trans _ _ ih ih' => exact ih.trans ih'

theorem sepL_mono {ι : Type} {Φ Ψ : ι → sProp 𝕄} : ∀ (l : List ι), (∀ a ∈ l, Φ a ⊢ Ψ a) → sepL Φ l ⊢ sepL Ψ l
  | [], _ => BI.Entails.refl _
  | a :: l, h => BI.sep_mono (h a List.mem_cons_self) (sepL_mono l fun b hb => h b (List.mem_cons_of_mem _ hb))

/-- A conjunction over a finite type is the one over a list of its elements. -/
theorem bigSep_eq_sepL {ι : Type} [DecidableEq ι] (Φ : ι → sProp 𝕄) : ∀ (l : List ι), l.Nodup → bigSep l.toFinset Φ = sepL Φ l
  | [], _ => by rw [List.toFinset_nil, bigSep_empty]; rfl
  | a :: l, h => by
    rw [List.toFinset_cons, bigSep_insert (by rw [List.mem_toFinset]; exact (List.nodup_cons.mp h).1), bigSep_eq_sepL Φ l (List.nodup_cons.mp h).2]
    rfl

theorem sepL_append {ι : Type} (Φ : ι → sProp 𝕄) : ∀ (l l' : List ι), sepL Φ (l ++ l') ⊣⊢ iprop(sepL Φ l ∗ sepL Φ l')
  | [], l' => by
    constructor
    · rw [List.nil_append, sepL_nil]; iintro H; isplitr; · iempintro
      iexact H
    · rw [List.nil_append, sepL_nil]; iintro ⟨-, H⟩; iexact H
  | a :: l, l' => by
    have ih := sepL_append Φ l l'
    constructor
    · rw [List.cons_append, sepL_cons, sepL_cons]
      refine (sep_mono_right ih.1).trans ?_
      iintro ⟨H1, H2, H3⟩
      isplitl [H1 H2]
      · isplitl [H1] <;> iassumption
      iexact H3
    · rw [List.cons_append, sepL_cons, sepL_cons]
      refine BIBase.Entails.trans ?_ (sep_mono_right ih.2)
      iintro ⟨⟨H1, H2⟩, H3⟩
      isplitl [H1]; · iexact H1
      isplitl [H2] <;> iassumption

theorem sepL_map {ι κ : Type} (Φ : ι → sProp 𝕄) (f : κ → ι) : ∀ l : List κ, sepL Φ (l.map f) = sepL (fun a => Φ (f a)) l
  | [] => rfl
  | a :: l => by rw [List.map_cons, sepL_cons, sepL_cons, sepL_map Φ f l]

/-! ## The schedule -/

/-- Slot `(r, k)` of the clockwise and of the counter-clockwise buffer, and half `k` of the pair, as the copies name them. -/
abbrev cwSlot (r : Fin 4) (k : Fin 2) : Memref sig .tc .vmem S256x512 .bf16 := (cwM.slice (slotR r k) (fun _ => rfl)).squeeze S256x512 squeezes_S1x1x256x512_S256x512
abbrev ccwSlot (r : Fin 4) (k : Fin 2) : Memref sig .tc .vmem S256x512 .bf16 := (ccwM.slice (slotR r k) (fun _ => rfl)).squeeze S256x512 squeezes_S1x1x256x512_S256x512
abbrev half (k : Fin 2) : Memref sig .tc .vmem S256x512 .bf16 := (ewbM.slice (halfR k) (fun _ => rfl)).squeeze S256x512 squeezes_S1x256x512_S256x512

/-- What copy `j` adds to each of its two semaphores. -/
def amt : Cp → ℕ
  | .cw h k => (cwSlot h.succ k).view.dmaCredit
  | .ccw h k => (ccwSlot h.succ k).view.dmaCredit
  | .z => (zM : Memref sig .tc .vmem S2x256x512 .bf16).view.dmaCredit

theorem amt_pos (j : Cp) : 0 < amt j := by
  cases j <;> (unfold amt; exact View.dmaCredit_pos _ (by decide))

/-- What the payment of duty `d` to a barrier cell of device `c` hands over: the slots of the partner in direction `d` for the copies in that direction. -/
def barPay (c : Dev nD) (d : Fin 3) : sProp 𝕄 := sepL (hole (F := F) (go d c)) (jsOf d)

instance barPay_storable (c : Dev nD) (d : Fin 3) : BI.Storable (upEmb : UEmb _ 𝕄) (barPay (F := F) c d) := by unfold barPay; infer_instance

/-- The schedule of the cells: one round; three duties of one unit on a barrier cell, one duty of the copy's credit on a cell that counts a copy. -/
def rd : Rounds.Schedule (GSem nD τ sig) (Fin 3) 𝕄 where
  duties g r := if r = 0 ∧ g.1.2 = .tc then
      (match g.2 with
        | .reg s => if s = barS then Finset.univ else ∅
        | .dma s => if (role s).isSome then {0} else ∅)
    else ∅
  unitless _ := False
  amount g _ _ := match g.2 with
    | .reg _ => 1
    | .dma s => match role s with
      | some (_, j) => amt j
      | none => 1
  payload g _ d := match g.2 with
    | .reg _ => barPay g.1.1 d
    | .dma s => match role s with
      | some (true, j) => lent E g.1.1 j
      | some (false, j) => landed E g.1.1 j
      | none => iprop(emp)
  amount_pos g _ _ _ := by
    rcases g with ⟨t, s | s⟩
    · exact Nat.one_pos
    · dsimp only
      split
      · exact amt_pos _
      · exact Nat.one_pos

instance rd_payload_storable (g : GSem nD τ sig) (r : ℕ) (d : Fin 3) : BI.Storable (upEmb : UEmb _ 𝕄) ((rd E).payload g r d) := by
  rcases g with ⟨t, s | s⟩
  · show BI.Storable upEmb (barPay t.1 d); infer_instance
  · dsimp only [rd]
    split <;> infer_instance

theorem duties_bar (c : Dev nD) : (rd E).duties (barCell c) 0 = Finset.univ := by
  dsimp only [rd]; rw [if_pos ⟨rfl, rfl⟩, if_pos rfl]
theorem duties_send (c : Dev nD) (j : Cp) : (rd E).duties (sendCell c j) 0 = {0} := by
  dsimp only [rd]; rw [if_pos ⟨rfl, rfl⟩, role_sendD]; rfl
theorem duties_recv (c : Dev nD) (j : Cp) : (rd E).duties (recvCell c j) 0 = {0} := by
  dsimp only [rd]; rw [if_pos ⟨rfl, rfl⟩, role_recvD]; rfl
theorem duties_later (g : GSem nD τ sig) : ∀ r, 1 ≤ r → (rd E).duties g r = ∅ :=
  fun r hr => by dsimp only [rd]; rw [if_neg fun h => by omega]

theorem amount_bar (c : Dev nD) (d : Fin 3) : (rd E).amount (barCell c) 0 d = 1 := rfl
theorem amount_send (c : Dev nD) (j : Cp) (d : Fin 3) : (rd E).amount (sendCell c j) 0 d = amt j := by
  dsimp only [rd]; rw [role_sendD]
theorem amount_recv (c : Dev nD) (j : Cp) (d : Fin 3) : (rd E).amount (recvCell c j) 0 d = amt j := by
  dsimp only [rd]; rw [role_recvD]

theorem expect_bar (c : Dev nD) : (rd E).expect (barCell c) 0 = 3 := by
  unfold Schedule.expect Schedule.amountOf
  rw [duties_bar, Finset.sum_congr rfl fun d _ => amount_bar E c d]; rfl
theorem expect_send (c : Dev nD) (j : Cp) : (rd E).expect (sendCell c j) 0 = amt j := by
  unfold Schedule.expect Schedule.amountOf; rw [duties_send, Finset.sum_singleton, amount_send]
theorem expect_recv (c : Dev nD) (j : Cp) : (rd E).expect (recvCell c j) 0 = amt j := by
  unfold Schedule.expect Schedule.amountOf; rw [duties_recv, Finset.sum_singleton, amount_recv]

theorem payload_bar (c : Dev nD) (d : Fin 3) : (rd E).payload (barCell c) 0 d = barPay c d := rfl
theorem payload_send (c : Dev nD) (j : Cp) (d : Fin 3) : (rd E).payload (sendCell c j) 0 d = lent E c j := by
  dsimp only [rd]; rw [role_sendD]
theorem payload_recv (c : Dev nD) (j : Cp) (d : Fin 3) : (rd E).payload (recvCell c j) 0 d = landed E c j := by
  dsimp only [rd]; rw [role_recvD]

theorem rest_bar (c : Dev nD) :
    bigSep ((rd E).duties (barCell c) 0 \ ∅) (fun d => (rd E).payload (barCell c) 0 d) = iprop(barPay c 0 ∗ barPay c 1 ∗ barPay c 2) := by
  rw [Finset.sdiff_empty, duties_bar, bigSep_univ_eq_bigSepL [0, 1, 2] (by decide) (by decide)]; rfl
theorem rest_send (c : Dev nD) (j : Cp) :
    bigSep ((rd E).duties (sendCell c j) 0 \ ∅) (fun d => (rd E).payload (sendCell c j) 0 d) = lent E c j := by
  rw [Finset.sdiff_empty, duties_send, bigSep_singleton, payload_send]
theorem rest_recv (c : Dev nD) (j : Cp) :
    bigSep ((rd E).duties (recvCell c j) 0 \ ∅) (fun d => (rd E).payload (recvCell c j) 0 d) = landed E c j := by
  rw [Finset.sdiff_empty, duties_recv, bigSep_singleton, payload_recv]

/-! ## Dues and levels -/

/-- What a device still owes to receiving semaphores while the copies in the list are not started. -/
def owedC (c : Dev nD) : List Cp → CellTallies nD τ sig Unit
  | [] => 0
  | j :: l => owedC c l + tallyAt (recvCell (go (way j) c) j) () (amt j)

/-- What a device owes at launch: the receiving semaphores of its copies, and a unit to the barrier cell of each partner. -/
def O₀ (c : Dev nD) : CellTallies nD τ sig Unit :=
  owedC c allCp + tallyAt (barCell (go 2 c)) () 1 + tallyAt (barCell (go 0 c)) () 1 + tallyAt (barCell (go 1 c)) () 1

def L (g : GSem nD τ sig) : Finset Unit := if g.1.2 = .tc then {()} else ∅

/-- The level of a copy: two above its hop; the copy across is on the lowest of these. -/
def lvC : Cp → ℕ
  | .cw h _ => h.val + 2
  | .ccw h _ => h.val + 2
  | .z => 2

/-- The levels: staging and sending semaphores at 0, barrier cells at 1, receiving semaphores at their copy's level. -/
def lv (g : GSem nD τ sig) (_ : Unit) : ℕ := match g.2 with
  | .reg _ => 1
  | .dma s => match role s with
    | some (false, j) => lvC j
    | _ => 0

theorem lvC_two (j : Cp) : 2 ≤ lvC j := by cases j <;> (simp only [lvC]; omega)
theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _
theorem lv_bar (c : Dev nD) (u : Unit) : lv (barCell c) u = 1 := rfl
theorem lv_recv (c : Dev nD) (j : Cp) (u : Unit) : lv (recvCell c j) u = lvC j := by dsimp only [lv]; rw [role_recvD]
theorem lv_stage (c : Thread nD τ) (s : DmaSem sig) (u : Unit) (h : role s = none) : lv (c, .dma s) u = 0 := by dsimp only [lv]; rw [h]

theorem owedC_pos {c : Dev nD} {g : GSem nD τ sig} {u : Unit} : ∀ {l : List Cp}, 0 < owedC c l g u → ∃ j ∈ l, g = recvCell (go (way j) c) j
  | [], h => absurd h (by unfold owedC; exact Nat.lt_irrefl 0)
  | j :: l, h => by
    unfold owedC at h
    rw [Pi.add_apply, Finsupp.add_apply, tallyAt_apply] at h
    by_cases hg : g = recvCell (go (way j) c) j ∧ u = ()
    · exact ⟨j, List.mem_cons_self, hg.1⟩
    · rw [if_neg hg, Nat.add_zero] at h
      obtain ⟨j', hj, e⟩ := owedC_pos h
      exact ⟨j', List.mem_cons_of_mem _ hj, e⟩

theorem O₀_pos {c : Dev nD} {g : GSem nD τ sig} {u : Unit} (h : 0 < O₀ c g u) : (∃ j, g = recvCell (go (way j) c) j) ∨ ∃ w, g = barCell (go w c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 0 h'.1), if_neg (fun h' => hn.2 1 h'.1)] at h
  obtain ⟨j, -, e⟩ := owedC_pos (show 0 < owedC c allCp g u from h)
  exact hn.1 j e

/-- A wait at a level below every copy not yet started is allowed. -/
theorem mayWait_of {c : Dev nD} {s : SemLoc sig} {l : List Cp} (h : ∀ j ∈ l, lv ((c : Thread nD τ), s) () < lvC j) :
    (levAts L lv : sProp 𝕄) ⊢ MayWait (c : Thread nD τ) s () (owedC c l) :=
  Pipeline.mayWait_of_levAts (L_tc c s) fun g u hg => by
    obtain ⟨j, hj, rfl⟩ := owedC_pos hg
    exact ⟨L_tc _ _, by rw [lv_recv]; exact h j hj⟩

/-- The waits of the staging copies are allowed before the body and after it. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L_tc c _) fun g u hg => ?_
    rw [lv_stage _ _ _ hq]
    rcases O₀_pos hg with ⟨j, rfl⟩ | ⟨w, rfl⟩
    · exact ⟨L_tc _ _, by rw [lv_recv]; exact lt_of_lt_of_le (by decide) (lvC_two j)⟩
    · exact ⟨L_tc _ _, by rw [lv_bar]; decide⟩
  · rw [MayWait_zero]; iintro -; iempintro

end Cert.KernelIdeal.Ring

end
-- ==== Proof.Steps.lean ====
/-
  The steps of the protocol: starting a copy, waiting for one to arrive, waiting for one to leave, and the handshake on the barrier cells.
  Each is stated once, for any copy, over the part of the protocol's state that it changes.
-/
module

public import proofs.«01_k».proof.Proof.Schedule

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

abbrev 𝒱₀ : Variants := Variants.none

variable (E : Dev nD → Pair F)

/-! ## The cells and their records -/

/-- The cells of a device: none names its barrier cell, `(true, j)` the cell that counts copy `j` out, `(false, j)` the one that counts it in. -/
abbrev Ci : Type := Option (Bool × Cp)

def csem : Ci → SemLoc sig
  | none => bar
  | some (true, j) => .dma (sendD j)
  | some (false, j) => .dma (recvD j)

abbrev kcell (ck : Dev nD × Ci) : GSem nD τ sig := ((ck.1 : Thread nD τ), csem ck.2)

/-- What everyone may know for good: every cell's invariant, and that every cell has reached its round. -/
def recs (K : Dev nD × Ci → ℕ) : sProp 𝕄 :=
  iprop((bigSep Finset.univ fun ck : Dev nD × Ci => cellInv ER (rd E) (K ck) (kcell ck))
    ∗ bigSep Finset.univ fun ck : Dev nD × Ci => reached ER (kcell ck) 0)

instance recs_persistent (K : Dev nD × Ci → ℕ) : BI.Persistent (recs E K) := by unfold recs; infer_instance

theorem recs_inv (K : Dev nD × Ci → ℕ) (c : Dev nD) (i : Ci) : recs E K ⊢ cellInv ER (rd E) (K (c, i)) (kcell (c, i)) := by
  unfold recs
  iintro ⟨H, -⟩
  iapply (show (bigSep Finset.univ fun ck : Dev nD × Ci => (cellInv ER (rd E) (K ck) (kcell ck) : sProp 𝕄)) ⊢ cellInv ER (rd E) (K (c, i)) (kcell (c, i))
    from bigSep_elim (Finset.mem_univ (c, i)))
  iexact H

theorem recs_reached (K : Dev nD × Ci → ℕ) (c : Dev nD) (i : Ci) : recs E K ⊢ (reached ER (kcell (c, i)) 0 : sProp 𝕄) := by
  unfold recs
  iintro ⟨-, H⟩
  iapply (show (bigSep Finset.univ fun ck : Dev nD × Ci => (reached ER (kcell ck) 0 : sProp 𝕄)) ⊢ reached ER (kcell (c, i)) 0
    from bigSep_elim (Finset.mem_univ (c, i)))
  iexact H

/-! ## A device's state in the protocol -/

/-- A copy that device `c` may start: the two payments' tokens, and its own sending cell. -/
def ready (c : Dev nD) (j : Cp) : sProp 𝕄 :=
  iprop(dutyTok ER (sendCell c j) 0 0 ∗ dutyTok ER (recvCell (go (way j) c) j) 0 0 ∗ atPos ER (sendCell c j) 0 ∅ 0)
/-- A copy that will arrive on device `c`. -/
def await (c : Dev nD) (j : Cp) : sProp 𝕄 := iprop(atPos ER (recvCell c j) 0 ∅ 0 ∗ cred (tallyAt (recvCell c j) () (amt j)))
/-- A copy that device `c` has started and not yet waited for. -/
def flying (c : Dev nD) (j : Cp) : sProp 𝕄 := iprop(atPos ER (sendCell c j) 0 ∅ 0 ∗ cred (tallyAt (sendCell c j) () (amt j)))
/-- A semaphore of device `c` back at zero. -/
def zero (c : Dev nD) (s : SemLoc sig) : sProp 𝕄 := semVal ((c : Thread nD τ), s) 0

/-- The state of device `c`: the copies `D` still due, of which it holds what it needs to start them, the slots of its partners where the copies `H` will
    land, the arrivals `A` to come, the copies `S` under way, the semaphores `Z` at zero. -/
def St (c : Dev nD) (D A S : List Cp) (Z : List (SemLoc sig)) : sProp 𝕄 :=
  iprop((∃ W, owes (c : Thread nD τ) (owedC c D) W) ∗ sepL (ready (F := F) c) D ∗ sepL (fun j => hole (F := F) (go (way j) c) j) D
    ∗ sepL (await (F := F) c) A ∗ sepL (flying (F := F) c) S ∗ sepL (zero (F := F) c) Z)

section Steps

variable (K : Dev nD × Ci → ℕ)

/-- Starting copy `j`: the lent share of the source and the slot it fills go, the copy is under way. -/
theorem wp_issue (c n : Dev nD) (j : Cp) (hn : n = go (way j) c) {s : Shape} {e : EltTy} {src : Memref sig .tc .vmem s e}
    {dst : Memref sig (Dev.tc n : Thread nD τ).2.kind .vmem s e}
    {hsc : dst.view.ref.isScScratch = false} {s1 s2 : DmaSem sig} (h1 : s1 = sendD j) (h2 : s2 = recvD j)
    {hsrc : src.view.WordExact} {hdst : dst.view.WordExact} {hsem : DmaTarget.Typed .vmem (.dma s2) (.remote (Dev.tc n : Thread nD τ) dst (.dma s1) hsc)}
    {α : Type} {Q : α → sProp 𝕄} {k : PUnit → Prog (TpuEff nD τ sig (Elt F) Λ₀ .tc) α}
    (q : PosShare TreeShare) (fs : Buf (Elt F) (src.view.loc (c : Thread nD τ)))
    (hN : dst.view.dmaCredit = amt j)
    (hlent : lent E c j = (src.view.loc (c : Thread nD τ) ↦[src.view.set]{q} fs))
    (hhole : hole (F := F) n j ⊢ iprop(∃ fd : Buf (Elt F) (dst.view.loc (n : Thread nD τ)), dst.view.loc (n : Thread nD τ) ↦[dst.view.set]{fullShare} fd))
    (hland : ∀ fd : Buf (Elt F) (dst.view.loc (n : Thread nD τ)),
      (dst.view.loc (n : Thread nD τ) ↦[dst.view.set]{fullShare} (dst.view.write (Elt F) fd (src.view.read (Elt F) fs) Finset.univ)) ⊢ landed E n j)
    {D A S : List Cp} {Z : List (SemLoc sig)} :
    iprop(recs E K ∗ lent E c j ∗ St (F := F) c (j :: D) A S Z)
      ⊢ iprop((St c D A (j :: S) Z -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2
  unfold St
  rw [hlent]
  simp only [sepL_cons]
  iintro ⟨#HR, Hsrc, ⟨%W, HO⟩, ⟨Hrdy, HD⟩, ⟨Hhole, HH⟩, HA, HS, HZ⟩ Hk
  unfold ready
  icases Hrdy with ⟨Ht1, Ht2, Hat⟩
  ihave Hd := hhole $$ Hhole
  icases Hd with ⟨%fd, Hd⟩
  iapply (Rounds.wp_send_pointsTo 𝒱₀ ER (rd E) (c : Thread nD τ) none (κ₁ := K (c, some (true, j))) (κ₂ := K (go (way j) c, some (false, j)))
    (r₁ := 0) (r₂ := 0) (d₁ := 0) (d₂ := 0) (fd := fd)
    (by rw [duties_send]; exact Finset.mem_singleton_self _) (by rw [duties_recv]; exact Finset.mem_singleton_self _)
    () () (amt j) (show dst.view.amount (.dma (recvD j)) = amt j from hN) (amount_send E c j 0) (amount_recv E (go (way j) c) j 0) (owedC c D) rfl (W := W)
    (by rw [payload_send, hlent])
    (by rw [payload_recv]; exact hland fd)) $$ [Hsrc Hd HO Ht1 Ht2]
  · isplitr; · iapply (recs_inv E K c (some (true, j))); iexact HR
    isplitr; · iapply (recs_inv E K (go (way j) c) (some (false, j))); iexact HR
    isplitl [Hsrc]; · iexact Hsrc
    isplitl [Hd]; · iexact Hd
    isplitl [HO]; · iexact HO
    isplitl [Ht1]; · iexact Ht1
    isplitr; · iapply (recs_reached E K c (some (true, j))); iexact HR
    isplitl [Ht2]; · iexact Ht2
    iapply (recs_reached E K (go (way j) c) (some (false, j))); iexact HR
  iintro ⟨Hc, HO⟩
  iapply Hk
  isplitl [HO]; · iexists W; iexact HO
  isplitl [HD]; · iexact HD
  isplitl [HH]; · iexact HH
  isplitl [HA]; · iexact HA
  isplitl [HS Hat Hc]
  · isplitl [Hat Hc]
    · unfold flying; isplitl [Hat] <;> iassumption
    iexact HS
  iexact HZ

/-- Waiting for copy `j` to arrive, while only copies of higher levels are due: the filled slot is handed over, the cell is back at zero. -/
theorem wp_arrive (c : Dev nD) (j : Cp) {sp sp' : Space} {s s' : Shape} {e e' : EltTy} {src : Memref sig .tc sp' s' e'} {dst : Memref sig .tc sp s e}
    {s2 : DmaSem sig} (h2 : s2 = recvD j) {hsrc : src.view.WordExact} {hdst : dst.view.WordExact}
    {α : Type} {Q : α → sProp 𝕄} {k : PUnit → Prog (TpuEff nD τ sig (Elt F) Λ₀ .tc) α}
    (hN : dst.view.dmaCredit = amt j) {D A S : List Cp} {Z : List (SemLoc sig)} (hlev : ∀ j' ∈ D, lvC j < lvC j') :
    iprop(recs E K ∗ levAts L lv ∗ St (F := F) c D (j :: A) S Z)
      ⊢ iprop(((St c D A S (.dma (recvD j) :: Z) ∗ landed E c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s2 src dst hsrc hdst) k) Q) := by
  subst h2
  unfold St
  simp only [sepL_cons]
  iintro ⟨#HR, #Hlev, ⟨%W, HO⟩, HD, HH, ⟨Haw, HA⟩, HS, HZ⟩ Hk
  unfold await
  icases Haw with ⟨Hat, Hc⟩
  iapply (Rounds.wp_wait_rest_token 𝒱₀ ER (rd E) (c : Thread nD τ) none (κ := K (c, some (false, j)))
      (wpE_waitDma2_eq 𝒱₀ (c : Thread nD τ) none Set.univ) (Set.mem_univ _) () (O := owedC c D) (W := W) (R := 0) (m := 0) (T := ∅)
      (by rw [Nat.zero_add, expect_recv]; exact hN)) $$ [Hc HO Hat]
  · isplitr; · iapply (recs_inv E K c (some (false, j))); iexact HR
    isplitl [Hc]; · rw [hN]; iexact Hc
    isplitl [HO]; · iexact HO
    isplitr
    · iapply (mayWait_of (F := F) (c := c) (s := .dma (recvD j)) (l := D) fun j' hj' => by rw [lv_recv]; exact hlev j' hj')
      iexact Hlev
    iexact Hat
  iintro ⟨HO, Hat, -, Hpay⟩
  ihave Hp := (Entails.of_eq (rest_recv E c j)) $$ Hpay
  imod (Rounds.cell_close ER (rd E) (Set.mem_univ (K (c, some (false, j)))) (fun h => h) (R := 0 + 1) (duties_later E (recvCell c j))) $$ [Hat] with Hz
  · isplitr; · iapply (recs_inv E K c (some (false, j))); iexact HR
    iexact Hat
  iapply Hk
  isplitr [Hp]
  · isplitl [HO]; · iexists _; iexact HO
    isplitl [HD]; · iexact HD
    isplitl [HH]; · iexact HH
    isplitl [HA]; · iexact HA
    isplitl [HS]; · iexact HS
    isplitl [Hz]; · unfold zero; iexact Hz
    iexact HZ
  iexact Hp

/-- Waiting for copy `j` to leave, nothing being due any more: the lent share comes back, the cell is back at zero. -/
theorem wp_leave (c : Dev nD) (j : Cp) {sp sp' : Space} {s s' : Shape} {e e' : EltTy} {src : Memref sig .tc sp' s' e'} {dst : Memref sig .tc sp s e}
    {s1 : DmaSem sig} (h1 : s1 = sendD j) {hsrc : src.view.WordExact} {hdst : dst.view.WordExact}
    {α : Type} {Q : α → sProp 𝕄} {k : PUnit → Prog (TpuEff nD τ sig (Elt F) Λ₀ .tc) α}
    (hN : dst.view.dmaCredit = amt j) {A S : List Cp} {Z : List (SemLoc sig)} :
    iprop(recs E K ∗ St (F := F) c [] A (j :: S) Z)
      ⊢ iprop(((St c [] A S (.dma (sendD j) :: Z) ∗ lent E c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 src dst hsrc hdst) k) Q) := by
  subst h1
  unfold St
  simp only [sepL_cons]
  iintro ⟨#HR, ⟨%W, HO⟩, HD, HH, HA, ⟨Hfl, HS⟩, HZ⟩ Hk
  unfold flying
  icases Hfl with ⟨Hat, Hc⟩
  iapply (Rounds.wp_wait_rest_token 𝒱₀ ER (rd E) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iapply (recs_inv E K c (some (true, j))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send E c j)) $$ Hpay
  imod (Rounds.cell_close ER (rd E) (Set.mem_univ (K (c, some (true, j)))) (fun h => h) (R := 0 + 1) (duties_later E (sendCell c j))) $$ [Hat] with Hz
  · isplitr; · iapply (recs_inv E K c (some (true, j))); iexact HR
    iexact Hat
  iapply Hk
  isplitr [Hp]
  · isplitl [HO]; · iexists _; iexact HO
    isplitl [HD]; · iexact HD
    isplitl [HH]; · iexact HH
    isplitl [HA]; · iexact HA
    isplitl [HS]; · iexact HS
    isplitl [Hz]; · unfold zero; iexact Hz
    iexact HZ
  iexact Hp

/-- A unit to the barrier cell of the partner `n` in direction `w`, with the slots of `c` that the partner's copies will land in. -/
theorem wp_hello (c n : Dev nD) (w : Fin 3) (hn : n = go w c) {O O' : CellTallies nD τ sig Unit} {W : Waits sig Unit}
    (hO : O = O' + tallyAt (barCell (go w c)) () 1) {α : Type} {Q : α → sProp 𝕄} {k : PUnit → Prog (TpuEff nD τ sig (Elt F) Λ₀ .tc) α} {k' : ℕ} (hk : k' = 1) :
    iprop(recs E K ∗ owes (c : Thread nD τ) O W ∗ dutyTok ER (barCell (go w c)) 0 (opp w) ∗ sepL (hole (F := F) c) (jsOf (opp w)))
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  iintro ⟨#HR, HO, Ht, Hh⟩ Hk
  iapply (Rounds.wp_signal 𝒱₀ ER (rd E) (c : Thread nD τ) none (dst := (go w c : Thread nD τ)) (κ := K (go w c, none))
      (d := opp w) (by rw [duties_bar]; exact Finset.mem_univ _) (amount_bar E (go w c) (opp w)) () O' hO) $$ [HO Ht Hh]
  · isplitr; · iapply (recs_inv E K (go w c) none); iexact HR
    isplitl [HO]; · iexact HO
    isplitl [Ht]; · iexact Ht
    isplitl [Hh]
    · rw [payload_bar]; unfold barPay; rw [go_opp_go]; iexact Hh
    iapply (recs_reached E K (go w c) none); iexact HR
  iexact Hk

/-- Waiting for the three partners, all copies being due: the slots of the partners for all copies are handed over, the barrier cell is back at zero. -/
theorem wp_meet (c : Dev nD) {W : Waits sig Unit} {α : Type} {Q : α → sProp 𝕄} {k : PUnit → Prog (TpuEff nD τ sig (Elt F) Λ₀ .tc) α} {k' : ℕ} (hk : k' = 3)
    {Z : List (SemLoc sig)} :
    iprop(recs E K ∗ levAts L lv ∗ owes (c : Thread nD τ) (owedC c allCp) W ∗ cred (tallyAt (barCell c) () 3) ∗ atPos ER (barCell c) 0 ∅ 0
        ∗ sepL (ready (F := F) c) allCp ∗ sepL (await (F := F) c) [.cw 0 0, .cw 0 1, .ccw 0 0, .ccw 0 1, .cw 1 0, .cw 1 1, .ccw 1 0, .ccw 1 1, .cw 2 0, .cw 2 1, .ccw 2 0, .ccw 2 1, .z]
        ∗ sepL (zero (F := F) c) Z)
      ⊢ iprop((St c allCp [.cw 0 0, .cw 0 1, .ccw 0 0, .ccw 0 1, .cw 1 0, .cw 1 1, .ccw 1 0, .ccw 1 1, .cw 2 0, .cw 2 1, .ccw 2 0, .ccw 2 1, .z] [] (bar :: Z)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, #Hlev, HO, Hc, Hat, HD, HA, HZ⟩ Hk
  iapply (Rounds.wp_wait_rest_token 𝒱₀ ER (rd E) (c : Thread nD τ) none (κ := K (c, none))
      (wpE_semWait_eq 𝒱₀ (c : Thread nD τ) none Set.univ) (Set.mem_univ _) () (O := owedC c allCp) (W := W) (R := 0) (m := 0) (T := ∅)
      (by rw [Nat.zero_add, expect_bar])) $$ [Hc HO Hat]
  · isplitr; · iapply (recs_inv E K c none); iexact HR
    isplitl [Hc]; · iexact Hc
    isplitl [HO]; · iexact HO
    isplitr
    · iapply (mayWait_of (F := F) (c := c) (s := bar) (l := allCp) fun j' hj' => by rw [lv_bar]; exact lt_of_lt_of_le (by decide) (lvC_two j'))
      iexact Hlev
    iexact Hat
  iintro ⟨HO, Hat, -, Hpay⟩
  ihave Hp := (Entails.of_eq (rest_bar E c)) $$ Hpay
  imod (Rounds.cell_close ER (rd E) (Set.mem_univ (K (c, none))) (fun h => h) (R := 0 + 1) (duties_later E (barCell c))) $$ [Hat] with Hz
  · isplitr; · iapply (recs_inv E K c none); iexact HR
    iexact Hat
  iapply Hk
  unfold St
  isplitl [HO]; · iexists _; iexact HO
  isplitl [HD]; · iexact HD
  isplitl [Hp]
  · unfold barPay
    simp only [jsOf, sepL_cons, sepL_nil, way]
    icases Hp with ⟨⟨A1, A2, A3, A4, A5, A6, -⟩, ⟨B1, B2, B3, B4, B5, B6, -⟩, C1, -⟩
    isplitl [C1]; · iexact C1
    isplitl [A1]; · iexact A1
    isplitl [B1]; · iexact B1
    isplitl [A2]; · iexact A2
    isplitl [B2]; · iexact B2
    isplitl [A3]; · iexact A3
    isplitl [A4]; · iexact A4
    isplitl [B3]; · iexact B3
    isplitl [B4]; · iexact B4
    isplitl [A5]; · iexact A5
    isplitl [A6]; · iexact A6
    isplitl [B5]; · iexact B5
    isplitl [B6]; · iexact B6
    iempintro
  isplitl [HA]; · iexact HA
  isplitr; · rw [sepL_nil]; iempintro
  rw [sepL_cons]
  isplitl [Hz]; · unfold zero; iexact Hz
  iexact HZ

end Steps

end Cert.KernelIdeal.Ring

end
-- ==== Proof.Moves.lean ====
/-
  The copies of this kernel, each as an instance of the step that starts a copy: what is lent is the source's view, the hole is the target's view, and
  what the copy writes there is what its receiver is promised.
-/
module

public import proofs.«01_k».proof.Proof.Steps
public import Idealize.ShloMosaic.Lib.ValueLayout

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F)

/-! ## The views -/

theorem cwSlot_set (r : Fin 4) (k : Fin 2) : (cwSlot r k).view.set = slotS r k :=
  (View.set_reshape _ _).trans (View.set_slice_whole cc0_scratch2 (slotR r k))
theorem ccwSlot_set (r : Fin 4) (k : Fin 2) : (ccwSlot r k).view.set = slotS r k :=
  (View.set_reshape _ _).trans (View.set_slice_whole cc0_scratch3 (slotR r k))
theorem half_set (k : Fin 2) : (half k).view.set = halfS k :=
  (View.set_reshape _ _).trans (View.set_slice_whole cc0_scratch0 (halfR k))

/-- The element of the buffer that a slot's view shows at `x`. -/
theorem slot_index (r : Fin 4) (k : Fin 2) (h : S256x512.numel = S1x1x256x512.numel) (x : S256x512.Idx) :
    (slotR r k).emb (Shape.reshapeEquiv h x) = ix4 r k (x 0) (x 1) := by
  have hx : x = ix2 (x 0) (x 1) := by funext a; fin_cases a <;> rfl
  rw [hx]
  have e := ValueIdx.reshapeEquiv_ix2_11ab (a := 256) (b := 512) h (x 0) (x 1)
  refine (congrArg (slotR r k).emb e).trans ?_
  funext a
  apply Fin.ext
  fin_cases a
  · show r.val + 1 * 0 = r.val; omega
  · show k.val + 1 * 0 = k.val; omega
  · show 0 + 1 * (x 0).val = (x 0).val; omega
  · show 0 + 1 * (x 1).val = (x 1).val; omega

theorem half_index (k : Fin 2) (h : S256x512.numel = S1x256x512.numel) (x : S256x512.Idx) :
    (halfR k).emb (Shape.reshapeEquiv h x) = ix3 k (x 0) (x 1) := by
  have hx : x = ix2 (x 0) (x 1) := by funext a; fin_cases a <;> rfl
  rw [hx]
  have e := ValueIdx.reshapeEquiv_ix2_1ab (a := 256) (b := 512) h (x 0) (x 1)
  refine (congrArg (halfR k).emb e).trans ?_
  funext a
  apply Fin.ext
  fin_cases a
  · show k.val + 1 * 0 = k.val; omega
  · show 0 + 1 * (x 0).val = (x 0).val; omega
  · show 0 + 1 * (x 1).val = (x 1).val; omega

theorem cwSlot_emb (r : Fin 4) (k : Fin 2) (x : S256x512.Idx) : (cwSlot r k).view.emb x = ix4 r k (x 0) (x 1) := slot_index r k _ x
theorem ccwSlot_emb (r : Fin 4) (k : Fin 2) (x : S256x512.Idx) : (ccwSlot r k).view.emb x = ix4 r k (x 0) (x 1) := slot_index r k _ x
theorem half_emb (k : Fin 2) (x : S256x512.Idx) : (half k).view.emb x = ix3 k (x 0) (x 1) := half_index k _ x

/-! ## What a copy leaves -/

theorem landed_cw (c : Dev nD) (h : Fin 3) (k : Fin 2) :
    (landed E c (.cw h k) : sProp 𝕄) = (((c : Thread nD τ).loc cc0_scratch2) ↦[slotS h.succ k]{fullShare} (cwBuf E c)) := rfl
theorem landed_ccw (c : Dev nD) (h : Fin 3) (k : Fin 2) :
    (landed E c (.ccw h k) : sProp 𝕄) = (((c : Thread nD τ).loc cc0_scratch3) ↦[slotS h.succ k]{fullShare} (ccwBuf E c)) := rfl
theorem landed_z (c : Dev nD) : (landed E c .z : sProp 𝕄) = (((c : Thread nD τ).loc cc0_scratch4) ↦[Finset.univ]{fullShare} (E (go 2 c))) := rfl

/-- A slot of the clockwise buffer after a copy into it whose source shows, element by element, what the receiver is promised. -/
theorem land_cw (n : Dev nD) (h : Fin 3) (k : Fin 2) (fd : Buf (Elt F) ((n : Thread nD τ).loc cc0_scratch2)) (w : S256x512.Idx → Elt F .bf16)
    (hw : ∀ x, w x = E (before n h.succ.val) (ix3 k (x 0) (x 1))) :
    (((cwSlot h.succ k).view.loc (n : Thread nD τ) ↦[(cwSlot h.succ k).view.set]{fullShare} ((cwSlot h.succ k).view.write (Elt F) fd w Finset.univ)) : sProp 𝕄)
      ⊢ landed E n (.cw h k) := by
  refine BIBase.Entails.of_eq ?_
  rw [landed_cw, cwSlot_set]
  refine pointsTo_congr fun i hi => ?_
  rw [← cwSlot_set] at hi
  obtain ⟨x, -, rfl⟩ := Finset.mem_map.mp hi
  rw [View.write_emb_of_mem _ _ (Finset.mem_univ x), hw, cwSlot_emb]
  rfl

theorem land_ccw (n : Dev nD) (h : Fin 3) (k : Fin 2) (fd : Buf (Elt F) ((n : Thread nD τ).loc cc0_scratch3)) (w : S256x512.Idx → Elt F .bf16)
    (hw : ∀ x, w x = E (beyond n h.succ.val) (ix3 k (x 0) (x 1))) :
    (((ccwSlot h.succ k).view.loc (n : Thread nD τ) ↦[(ccwSlot h.succ k).view.set]{fullShare} ((ccwSlot h.succ k).view.write (Elt F) fd w Finset.univ)) : sProp 𝕄)
      ⊢ landed E n (.ccw h k) := by
  refine BIBase.Entails.of_eq ?_
  rw [landed_ccw, ccwSlot_set]
  refine pointsTo_congr fun i hi => ?_
  rw [← ccwSlot_set] at hi
  obtain ⟨x, -, rfl⟩ := Finset.mem_map.mp hi
  rw [View.write_emb_of_mem _ _ (Finset.mem_univ x), hw, ccwSlot_emb]
  rfl

theorem hole_cw (n : Dev nD) (h : Fin 3) (k : Fin 2) : (hole n (.cw h k) : sProp 𝕄)
    ⊢ iprop(∃ fd : Buf (Elt F) ((cwSlot h.succ k).view.loc (n : Thread nD τ)), (cwSlot h.succ k).view.loc (n : Thread nD τ) ↦[(cwSlot h.succ k).view.set]{fullShare} fd) := by
  rw [cwSlot_set]; exact BI.Entails.refl _
theorem hole_ccw (n : Dev nD) (h : Fin 3) (k : Fin 2) : (hole n (.ccw h k) : sProp 𝕄)
    ⊢ iprop(∃ fd : Buf (Elt F) ((ccwSlot h.succ k).view.loc (n : Thread nD τ)), (ccwSlot h.succ k).view.loc (n : Thread nD τ) ↦[(ccwSlot h.succ k).view.set]{fullShare} fd) := by
  rw [ccwSlot_set]; exact BI.Entails.refl _

/-! ## What is lent -/

theorem lent_cw0 (c : Dev nD) (k : Fin 2) : (lent E c (.cw 0 k) : sProp 𝕄) = (((c : Thread nD τ).loc cc0_scratch0) ↦[halfS k]{shCw} (E c)) := by
  dsimp only [lent]; rw [if_pos rfl]
theorem lent_ccw0 (c : Dev nD) (k : Fin 2) : (lent E c (.ccw 0 k) : sProp 𝕄) = (((c : Thread nD τ).loc cc0_scratch0) ↦[halfS k]{shCcw} (E c)) := by
  dsimp only [lent]; rw [if_pos rfl]
theorem lent_cw (c : Dev nD) (h : Fin 3) (k : Fin 2) (hh : h ≠ 0) :
    (lent E c (.cw h k) : sProp 𝕄) = (((c : Thread nD τ).loc cc0_scratch2) ↦[slotS h.castSucc k]{fullShare.left} (cwBuf E c)) := by
  dsimp only [lent]; rw [if_neg hh]
theorem lent_ccw (c : Dev nD) (h : Fin 3) (k : Fin 2) (hh : h ≠ 0) :
    (lent E c (.ccw h k) : sProp 𝕄) = (((c : Thread nD τ).loc cc0_scratch3) ↦[slotS h.castSucc k]{fullShare.left} (ccwBuf E c)) := by
  dsimp only [lent]; rw [if_neg hh]

/-! ## Starting the copies -/

section Start

variable (K : Dev nD × Ci → ℕ)

/-- The first hop clockwise: expert `k` of the device's own pair to row 1 of the next device. -/
theorem start_cw0 (c n : Dev nD) (k : Fin 2) (hn : n = go 0 c) {src : Memref sig .tc .vmem S256x512 .bf16}
    {dst : Memref sig (Dev.tc n : Thread nD τ).2.kind .vmem S256x512 .bf16} {hsc : dst.view.ref.isScScratch = false} {s1 s2 : DmaSem sig}
    {hsrc : src.view.WordExact} {hdst : dst.view.WordExact} {hsem : DmaTarget.Typed .vmem (.dma s2) (.remote (Dev.tc n : Thread nD τ) dst (.dma s1) hsc)}
    (es : src = half k) (ed : dst = cwSlot 1 k) (h1 : s1 = sendD (.cw 0 k)) (h2 : s2 = recvD (.cw 0 k))
    {α : Type} {Q : α → sProp 𝕄} {k' : PUnit → Prog (TpuEff nD τ sig (Elt F) Λ₀ .tc) α} {D A S : List Cp} {Z : List (SemLoc sig)} :
    iprop(recs E K ∗ lent E c (.cw 0 k) ∗ St (F := F) c (.cw 0 k :: D) A S Z)
      ⊢ iprop((St c D A (.cw 0 k :: S) Z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k') Q) := by
  subst es ed
  refine wp_issue E K c n (.cw 0 k) hn h1 h2 shCw (E c) rfl ?_ (hole_cw n 0 k) fun fd => land_cw E n 0 k fd _ fun x => ?_
  · rw [lent_cw0, half_set]
  · subst hn
    rw [View.read_apply, half_emb, before_succ]
    exact congrFun (congrArg E (before_zero c).symm) _

/-- A later hop clockwise: slot `(h, k)` to row `h + 1` of the next device. -/
theorem start_cw (c n : Dev nD) (h : Fin 3) (k : Fin 2) (hh : h ≠ 0) (hn : n = go 0 c) {src : Memref sig .tc .vmem S256x512 .bf16}
    {dst : Memref sig (Dev.tc n : Thread nD τ).2.kind .vmem S256x512 .bf16} {hsc : dst.view.ref.isScScratch = false} {s1 s2 : DmaSem sig}
    {hsrc : src.view.WordExact} {hdst : dst.view.WordExact} {hsem : DmaTarget.Typed .vmem (.dma s2) (.remote (Dev.tc n : Thread nD τ) dst (.dma s1) hsc)}
    (es : src = cwSlot h.castSucc k) (ed : dst = cwSlot h.succ k) (h1 : s1 = sendD (.cw h k)) (h2 : s2 = recvD (.cw h k))
    {α : Type} {Q : α → sProp 𝕄} {k' : PUnit → Prog (TpuEff nD τ sig (Elt F) Λ₀ .tc) α} {D A S : List Cp} {Z : List (SemLoc sig)} :
    iprop(recs E K ∗ lent E c (.cw h k) ∗ St (F := F) c (.cw h k :: D) A S Z)
      ⊢ iprop((St c D A (.cw h k :: S) Z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k') Q) := by
  subst es ed
  refine wp_issue E K c n (.cw h k) hn h1 h2 fullShare.left (cwBuf E c) rfl ?_ (hole_cw n h k) fun fd => land_cw E n h k fd _ fun x => ?_
  · rw [lent_cw E c h k hh, cwSlot_set]
  · subst hn
    rw [View.read_apply, cwSlot_emb, before_succ]
    rfl

/-- The first hop counter-clockwise: expert `k` of the device's own pair to row 1 of the previous device. -/
theorem start_ccw0 (c n : Dev nD) (k : Fin 2) (hn : n = go 1 c) {src : Memref sig .tc .vmem S256x512 .bf16}
    {dst : Memref sig (Dev.tc n : Thread nD τ).2.kind .vmem S256x512 .bf16} {hsc : dst.view.ref.isScScratch = false} {s1 s2 : DmaSem sig}
    {hsrc : src.view.WordExact} {hdst : dst.view.WordExact} {hsem : DmaTarget.Typed .vmem (.dma s2) (.remote (Dev.tc n : Thread nD τ) dst (.dma s1) hsc)}
    (es : src = half k) (ed : dst = ccwSlot 1 k) (h1 : s1 = sendD (.ccw 0 k)) (h2 : s2 = recvD (.ccw 0 k))
    {α : Type} {Q : α → sProp 𝕄} {k' : PUnit → Prog (TpuEff nD τ sig (Elt F) Λ₀ .tc) α} {D A S : List Cp} {Z : List (SemLoc sig)} :
    iprop(recs E K ∗ lent E c (.ccw 0 k) ∗ St (F := F) c (.ccw 0 k :: D) A S Z)
      ⊢ iprop((St c D A (.ccw 0 k :: S) Z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k') Q) := by
  subst es ed
  refine wp_issue E K c n (.ccw 0 k) hn h1 h2 shCcw (E c) rfl ?_ (hole_ccw n 0 k) fun fd => land_ccw E n 0 k fd _ fun x => ?_
  · rw [lent_ccw0, half_set]
  · subst hn
    rw [View.read_apply, half_emb, beyond_succ]
    exact congrFun (congrArg E (beyond_zero c).symm) _

/-- A later hop counter-clockwise: slot `(h, k)` to row `h + 1` of the previous device. -/
theorem start_ccw (c n : Dev nD) (h : Fin 3) (k : Fin 2) (hh : h ≠ 0) (hn : n = go 1 c) {src : Memref sig .tc .vmem S256x512 .bf16}
    {dst : Memref sig (Dev.tc n : Thread nD τ).2.kind .vmem S256x512 .bf16} {hsc : dst.view.ref.isScScratch = false} {s1 s2 : DmaSem sig}
    {hsrc : src.view.WordExact} {hdst : dst.view.WordExact} {hsem : DmaTarget.Typed .vmem (.dma s2) (.remote (Dev.tc n : Thread nD τ) dst (.dma s1) hsc)}
    (es : src = ccwSlot h.castSucc k) (ed : dst = ccwSlot h.succ k) (h1 : s1 = sendD (.ccw h k)) (h2 : s2 = recvD (.ccw h k))
    {α : Type} {Q : α → sProp 𝕄} {k' : PUnit → Prog (TpuEff nD τ sig (Elt F) Λ₀ .tc) α} {D A S : List Cp} {Z : List (SemLoc sig)} :
    iprop(recs E K ∗ lent E c (.ccw h k) ∗ St (F := F) c (.ccw h k :: D) A S Z)
      ⊢ iprop((St c D A (.ccw h k :: S) Z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k') Q) := by
  subst es ed
  refine wp_issue E K c n (.ccw h k) hn h1 h2 fullShare.left (ccwBuf E c) rfl ?_ (hole_ccw n h k) fun fd => land_ccw E n h k fd _ fun x => ?_
  · rw [lent_ccw E c h k hh, ccwSlot_set]
  · subst hn
    rw [View.read_apply, ccwSlot_emb, beyond_succ]
    rfl

/-- The copy across the ring: the device's own pair to the buffer of the device opposite. -/
theorem start_z (c n : Dev nD) (hn : n = go 2 c) {src : Memref sig .tc .vmem S2x256x512 .bf16}
    {dst : Memref sig (Dev.tc n : Thread nD τ).2.kind .vmem S2x256x512 .bf16} {hsc : dst.view.ref.isScScratch = false} {s1 s2 : DmaSem sig}
    {hsrc : src.view.WordExact} {hdst : dst.view.WordExact} {hsem : DmaTarget.Typed .vmem (.dma s2) (.remote (Dev.tc n : Thread nD τ) dst (.dma s1) hsc)}
    (es : src = ewbM) (ed : dst = zM) (h1 : s1 = sendD .z) (h2 : s2 = recvD .z)
    {α : Type} {Q : α → sProp 𝕄} {k' : PUnit → Prog (TpuEff nD τ sig (Elt F) Λ₀ .tc) α} {D A S : List Cp} {Z : List (SemLoc sig)} :
    iprop(recs E K ∗ lent E c .z ∗ St (F := F) c (.z :: D) A S Z)
      ⊢ iprop((St c D A (.z :: S) Z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k') Q) := by
  subst es ed
  have hset : (ewbM : Memref sig .tc .vmem S2x256x512 .bf16).view.set = Finset.univ := View.set_whole cc0_scratch0
  have hsetz : (zM : Memref sig .tc .vmem S2x256x512 .bf16).view.set = Finset.univ := View.set_whole cc0_scratch4
  refine wp_issue E K c n .z hn h1 h2 shZ (E c) rfl ?_ ?_ fun fd => ?_
  · rw [hset]; rfl
  · rw [hsetz]; exact BI.Entails.refl _
  · subst hn
    rw [hsetz]
    refine BIBase.Entails.of_eq ?_
    unfold landed
    refine pointsTo_congr fun i _ => ?_
    refine (congrFun (View.write_whole_univ cc0_scratch4 fd _) i).trans ?_
    refine (congrFun (View.read_whole cc0_scratch0 (E c)) i).trans ?_
    rw [show go 2 (go 2 c) = c from go_opp_go 2 c]

end Start

end Cert.KernelIdeal.Ring

end
-- ==== Proof.Memory.lean ====
/-
  The memory of a device in the run: how the buffers split into the pieces and shares that the copies use and come together again, and what the loads and
  stores of the program read and leave.
-/
module

public import proofs.«01_k».proof.Proof.Moves

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F)

/-! ## The pair and its shares -/

theorem halves {c : Dev nD} {q : PosShare TreeShare} (f : Pair F) :
    (((c : Thread nD τ).loc cc0_scratch0 ↦[Finset.univ]{q} f : sProp 𝕄))
      ⊣⊢ iprop(((c : Thread nD τ).loc cc0_scratch0 ↦[halfS 0]{q} f) ∗ ((c : Thread nD τ).loc cc0_scratch0 ↦[halfS 1]{q} f)) := by
  have h := pointsTo_union (q := q) (ℓ := (c : Thread nD τ).loc cc0_scratch0) (f := f) (Val := Elt F) (Ix := Unit) (Name := ℕ) (U := UU) (Lvl := ℕ) halfS_disjoint
  rwa [halfS_union] at h

theorem lent_z (c : Dev nD) : (lent E c .z : sProp 𝕄) = (((c : Thread nD τ).loc cc0_scratch0) ↦[Finset.univ]{shZ} (E c)) := rfl

/-- The device's own pair: the parts lent to its first copies and the part kept. -/
theorem pair_split (c : Dev nD) :
    ((((c : Thread nD τ).loc cc0_scratch0) ↦{fullShare} (E c)) : sProp 𝕄)
      ⊢ iprop(lent E c .z ∗ (((c : Thread nD τ).loc cc0_scratch0) ↦{shKeep} (E c)) ∗ lent E c (.cw 0 0) ∗ lent E c (.cw 0 1) ∗ lent E c (.ccw 0 0) ∗ lent E c (.ccw 0 1)) := by
  rw [lent_z, lent_cw0, lent_cw0, lent_ccw0, lent_ccw0]
  iintro H
  ihave H := (pointsTo_share (PosShare.mem_left_op_right fullShare)).1 $$ H
  icases H with ⟨Hl, Hr⟩
  ihave Hl := (pointsTo_share (PosShare.mem_left_op_right fullShare.left)).1 $$ Hl
  icases Hl with ⟨H1, H2⟩
  ihave Hr := (pointsTo_share (PosShare.mem_left_op_right fullShare.right)).1 $$ Hr
  icases Hr with ⟨H3, H4⟩
  ihave H3 := (halves (E c)).1 $$ H3
  icases H3 with ⟨H30, H31⟩
  ihave H4 := (halves (E c)).1 $$ H4
  icases H4 with ⟨H40, H41⟩
  isplitl [H1]; · iexact H1
  isplitl [H2]; · iexact H2
  isplitl [H30]; · iexact H30
  isplitl [H31]; · iexact H31
  isplitl [H40]; · iexact H40
  iexact H41

theorem pair_join (c : Dev nD) :
    iprop(lent E c .z ∗ (((c : Thread nD τ).loc cc0_scratch0) ↦{shKeep} (E c)) ∗ lent E c (.cw 0 0) ∗ lent E c (.cw 0 1) ∗ lent E c (.ccw 0 0) ∗ lent E c (.ccw 0 1))
      ⊢ ((((c : Thread nD τ).loc cc0_scratch0) ↦{fullShare} (E c)) : sProp 𝕄) := by
  rw [lent_z, lent_cw0, lent_cw0, lent_ccw0, lent_ccw0]
  iintro ⟨H1, H2, H30, H31, H40, H41⟩
  iapply (pointsTo_share (PosShare.mem_left_op_right fullShare)).2
  isplitl [H1 H2]
  · iapply (pointsTo_share (PosShare.mem_left_op_right fullShare.left)).2
    isplitl [H1]; · iexact H1
    iexact H2
  iapply (pointsTo_share (PosShare.mem_left_op_right fullShare.right)).2
  isplitl [H30 H31]
  · iapply (halves (E c)).2
    isplitl [H30] <;> iassumption
  iapply (halves (E c)).2
  isplitl [H40] <;> iassumption

/-! ## The slots of the rings and their shares -/

/-- The part of an arrived slot that the device keeps while it passes the slot on. -/
def keptCw (c : Dev nD) (r : Fin 4) (k : Fin 2) : sProp 𝕄 := ((c : Thread nD τ).loc cc0_scratch2) ↦[slotS r k]{fullShare.right} (cwBuf E c)
def keptCcw (c : Dev nD) (r : Fin 4) (k : Fin 2) : sProp 𝕄 := ((c : Thread nD τ).loc cc0_scratch3) ↦[slotS r k]{fullShare.right} (ccwBuf E c)

theorem share_cw (c : Dev nD) (h h' : Fin 3) (r : Fin 4) (k : Fin 2) (h0 : h' ≠ 0) (h1 : h.succ = r) (h2 : h'.castSucc = r) :
    (landed E c (.cw h k) : sProp 𝕄) ⊣⊢ iprop(lent E c (.cw h' k) ∗ keptCw E c r k) := by
  subst h1
  rw [lent_cw E c h' k h0, landed_cw, h2]
  unfold keptCw
  exact pointsTo_share (PosShare.mem_left_op_right fullShare)
theorem share_ccw (c : Dev nD) (h h' : Fin 3) (r : Fin 4) (k : Fin 2) (h0 : h' ≠ 0) (h1 : h.succ = r) (h2 : h'.castSucc = r) :
    (landed E c (.ccw h k) : sProp 𝕄) ⊣⊢ iprop(lent E c (.ccw h' k) ∗ keptCcw E c r k) := by
  subst h1
  rw [lent_ccw E c h' k h0, landed_ccw, h2]
  unfold keptCcw
  exact pointsTo_share (PosShare.mem_left_op_right fullShare)

/-- A ring buffer is its row 0 and the six slots of its other rows. -/
theorem ring_union :
    rowS 0 ∪ (slotS 1 0 ∪ (slotS 1 1 ∪ (slotS 2 0 ∪ (slotS 2 1 ∪ (slotS 3 0 ∪ slotS 3 1))))) = (Finset.univ : Finset S4x2x256x512.Idx) := by
  ext i
  have h0 : (i 0).val < 4 := (i 0).isLt
  have h1 : (i 1).val < 2 := (i 1).isLt
  simp only [Finset.mem_union, mem_rowS, mem_slotS, Finset.mem_univ, iff_true, show (0 : Fin 4).val = 0 from rfl, show (1 : Fin 4).val = 1 from rfl,
    show (2 : Fin 4).val = 2 from rfl, show (3 : Fin 4).val = 3 from rfl, show (0 : Fin 2).val = 0 from rfl, show (1 : Fin 2).val = 1 from rfl]
  omega

/-- Elements of a buffer held whole, whatever they hold. -/
def some (ℓ : Loc nD τ sig) (I : Finset (Idx ℓ)) : sProp 𝕄 := iprop(∃ f : Buf (Elt F) ℓ, ℓ ↦[I]{fullShare} f)

theorem some_intro {ℓ : Loc nD τ sig} {I : Finset (Idx ℓ)} (f : Buf (Elt F) ℓ) : (ℓ ↦[I]{fullShare} f : sProp 𝕄) ⊢ some (F := F) ℓ I := by
  unfold some; iintro H; iexists f; iexact H

theorem some_union {ℓ : Loc nD τ sig} {I J : Finset (Idx ℓ)} (h : Disjoint I J) : (some (F := F) ℓ (I ∪ J) : sProp 𝕄) ⊢ iprop(some (F := F) ℓ I ∗ some (F := F) ℓ J) := by
  unfold some
  iintro ⟨%f, H⟩
  ihave H := (pointsTo_union h).1 $$ H
  icases H with ⟨H1, H2⟩
  isplitl [H1] <;> (iexists f; iassumption)

theorem some_join {ℓ : Loc nD τ sig} {I J : Finset (Idx ℓ)} (h : Disjoint I J) : iprop(some (F := F) ℓ I ∗ some (F := F) ℓ J) ⊢ (some (F := F) ℓ (I ∪ J) : sProp 𝕄) := by
  unfold some
  iintro ⟨⟨%f, H1⟩, ⟨%g, H2⟩⟩
  iexists (J.piecewise g f)
  iapply (pointsTo_join h)
  isplitl [H1] <;> iassumption

theorem ring_disjoint0 : Disjoint (rowS 0) (slotS 1 0 ∪ (slotS 1 1 ∪ (slotS 2 0 ∪ (slotS 2 1 ∪ (slotS 3 0 ∪ slotS 3 1))))) := by
  rw [Finset.disjoint_left]
  intro i hi hi'
  simp only [Finset.mem_union, mem_rowS, mem_slotS, show (0 : Fin 4).val = 0 from rfl, show (1 : Fin 4).val = 1 from rfl,
    show (2 : Fin 4).val = 2 from rfl, show (3 : Fin 4).val = 3 from rfl] at hi hi'
  omega
theorem ring_disjoint1 : Disjoint (slotS 1 0) (slotS 1 1 ∪ (slotS 2 0 ∪ (slotS 2 1 ∪ (slotS 3 0 ∪ slotS 3 1)))) := by
  simp only [Finset.disjoint_union_right]; refine ⟨?_, ?_, ?_, ?_, ?_⟩ <;> exact slotS_disjoint (by decide)
theorem ring_disjoint2 : Disjoint (slotS 1 1) (slotS 2 0 ∪ (slotS 2 1 ∪ (slotS 3 0 ∪ slotS 3 1))) := by
  simp only [Finset.disjoint_union_right]; refine ⟨?_, ?_, ?_, ?_⟩ <;> exact slotS_disjoint (by decide)
theorem ring_disjoint3 : Disjoint (slotS 2 0) (slotS 2 1 ∪ (slotS 3 0 ∪ slotS 3 1)) := by
  simp only [Finset.disjoint_union_right]; refine ⟨?_, ?_, ?_⟩ <;> exact slotS_disjoint (by decide)
theorem ring_disjoint4 : Disjoint (slotS 2 1) (slotS 3 0 ∪ slotS 3 1) := by
  simp only [Finset.disjoint_union_right]; refine ⟨?_, ?_⟩ <;> exact slotS_disjoint (by decide)
theorem ring_disjoint5 : Disjoint (slotS 3 0) (slotS 3 1) := slotS_disjoint (by decide)

/-- The pieces of a ring buffer, each whatever it holds. -/
def pieces (ℓ : Loc nD τ sig) (I0 I1 I2 I3 I4 I5 I6 : Finset (Idx ℓ)) : sProp 𝕄 :=
  iprop(some (F := F) ℓ I0 ∗ some (F := F) ℓ I1 ∗ some (F := F) ℓ I2 ∗ some (F := F) ℓ I3 ∗ some (F := F) ℓ I4 ∗ some (F := F) ℓ I5 ∗ some (F := F) ℓ I6)

theorem pieces_split {ℓ : Loc nD τ sig} {I0 I1 I2 I3 I4 I5 I6 : Finset (Idx ℓ)} (h0 : Disjoint I0 (I1 ∪ (I2 ∪ (I3 ∪ (I4 ∪ (I5 ∪ I6))))))
    (h1 : Disjoint I1 (I2 ∪ (I3 ∪ (I4 ∪ (I5 ∪ I6))))) (h2 : Disjoint I2 (I3 ∪ (I4 ∪ (I5 ∪ I6)))) (h3 : Disjoint I3 (I4 ∪ (I5 ∪ I6)))
    (h4 : Disjoint I4 (I5 ∪ I6)) (h5 : Disjoint I5 I6) :
    (some (F := F) ℓ (I0 ∪ (I1 ∪ (I2 ∪ (I3 ∪ (I4 ∪ (I5 ∪ I6)))))) : sProp 𝕄) ⊢ pieces (F := F) ℓ I0 I1 I2 I3 I4 I5 I6 :=
  (some_union h0).trans (sep_mono_right ((some_union h1).trans (sep_mono_right ((some_union h2).trans (sep_mono_right ((some_union h3).trans
    (sep_mono_right ((some_union h4).trans (sep_mono_right (some_union h5))))))))))

theorem pieces_join {ℓ : Loc nD τ sig} {I0 I1 I2 I3 I4 I5 I6 : Finset (Idx ℓ)} (h0 : Disjoint I0 (I1 ∪ (I2 ∪ (I3 ∪ (I4 ∪ (I5 ∪ I6))))))
    (h1 : Disjoint I1 (I2 ∪ (I3 ∪ (I4 ∪ (I5 ∪ I6))))) (h2 : Disjoint I2 (I3 ∪ (I4 ∪ (I5 ∪ I6)))) (h3 : Disjoint I3 (I4 ∪ (I5 ∪ I6)))
    (h4 : Disjoint I4 (I5 ∪ I6)) (h5 : Disjoint I5 I6) :
    (pieces (F := F) ℓ I0 I1 I2 I3 I4 I5 I6 : sProp 𝕄) ⊢ some (F := F) ℓ (I0 ∪ (I1 ∪ (I2 ∪ (I3 ∪ (I4 ∪ (I5 ∪ I6)))))) :=
  (sep_mono_right ((sep_mono_right ((sep_mono_right ((sep_mono_right ((sep_mono_right (some_join h5)).trans (some_join h4))).trans (some_join h3))).trans
    (some_join h2))).trans (some_join h1))).trans (some_join h0)

abbrev ringPieces2 (c : Dev nD) : sProp 𝕄 :=
  pieces (F := F) ((c : Thread nD τ).loc cc0_scratch2) (rowS 0) (slotS 1 0) (slotS 1 1) (slotS 2 0) (slotS 2 1) (slotS 3 0) (slotS 3 1)
abbrev ringPieces3 (c : Dev nD) : sProp 𝕄 :=
  pieces (F := F) ((c : Thread nD τ).loc cc0_scratch3) (rowS 0) (slotS 1 0) (slotS 1 1) (slotS 2 0) (slotS 2 1) (slotS 3 0) (slotS 3 1)

theorem ring2_split (c : Dev nD) : (some (F := F) ((c : Thread nD τ).loc cc0_scratch2) Finset.univ : sProp 𝕄) ⊢ ringPieces2 (F := F) c := by
  have h := pieces_split (F := F) (ℓ := (c : Thread nD τ).loc cc0_scratch2) ring_disjoint0 ring_disjoint1 ring_disjoint2 ring_disjoint3 ring_disjoint4 ring_disjoint5
  rwa [ring_union] at h
theorem ring2_join (c : Dev nD) : ringPieces2 (F := F) c ⊢ (some (F := F) ((c : Thread nD τ).loc cc0_scratch2) Finset.univ : sProp 𝕄) := by
  have h := pieces_join (F := F) (ℓ := (c : Thread nD τ).loc cc0_scratch2) ring_disjoint0 ring_disjoint1 ring_disjoint2 ring_disjoint3 ring_disjoint4 ring_disjoint5
  rwa [ring_union] at h
theorem ring3_split (c : Dev nD) : (some (F := F) ((c : Thread nD τ).loc cc0_scratch3) Finset.univ : sProp 𝕄) ⊢ ringPieces3 (F := F) c := by
  have h := pieces_split (F := F) (ℓ := (c : Thread nD τ).loc cc0_scratch3) ring_disjoint0 ring_disjoint1 ring_disjoint2 ring_disjoint3 ring_disjoint4 ring_disjoint5
  rwa [ring_union] at h
theorem ring3_join (c : Dev nD) : ringPieces3 (F := F) c ⊢ (some (F := F) ((c : Thread nD τ).loc cc0_scratch3) Finset.univ : sProp 𝕄) := by
  have h := pieces_join (F := F) (ℓ := (c : Thread nD τ).loc cc0_scratch3) ring_disjoint0 ring_disjoint1 ring_disjoint2 ring_disjoint3 ring_disjoint4 ring_disjoint5
  rwa [ring_union] at h

/-! ## What loads read -/

/-- Row `r` of a filled ring buffer: the pair of one device, with a leading axis of one. -/
def rowOf (f : Pair F) : S1x2x256x512.Idx → Elt F .bf16 := fun i => f (ix3 (i 1) (i 2) (i 3))

/-- The columns of the gated tokens that meet device `o`'s pair. -/
def xgBlk (o : Dev nD) (f : S512x4096.Idx → Elt F .bf16) : S512x512.Idx → Elt F .bf16 :=
  fun i => f (ix2 (⟨(i 0).val, (i 0).isLt⟩ : Fin 512) (⟨512 * o.val + (i 1).val, by have : o.val < 8 := o.isLt; have : (i 1).val < 512 := (i 1).isLt; omega⟩ : Fin 4096))

theorem row_emb (r : Fin 4) (x : S1x2x256x512.Idx) : (rowR r).emb x = ix4 r (x 1) (x 2) (x 3) := by
  have h0 : (x 0).val < 1 := (x 0).isLt
  funext a
  apply Fin.ext
  fin_cases a
  · show r.val + 1 * (x 0).val = r.val; omega
  · show 0 + 1 * (x 1).val = (x 1).val; omega
  · show 0 + 1 * (x 2).val = (x 2).val; omega
  · show 0 + 1 * (x 3).val = (x 3).val; omega

section Loads

variable {α : Type}

/-- A load of row `r` of the clockwise buffer, from a share of both its slots. -/
theorem load_cw (c : Dev nD) (r : Fin 4) (q : PosShare TreeShare) {off : Fin 4 → ℕ} (ho : off = ![r.val, 0, 0, 0])
    {inb : ∀ a, off a + S1x2x256x512.size a ≤ S4x2x256x512.size a}
    {hl : cwM.view.LoadsAt (Rect.unit (s := S4x2x256x512) off S1x2x256x512.size inb).toLoadRect}
    {Q : α → sProp 𝕄} {k : (S1x2x256x512.Idx → Elt F .bf16) → Prog (TpuEff nD τ sig (Elt F) Λ₀ .tc) α} :
    iprop((((c : Thread nD τ).loc cc0_scratch2) ↦[slotS r 0]{q} (cwBuf E c)) ∗ (((c : Thread nD τ).loc cc0_scratch2) ↦[slotS r 1]{q} (cwBuf E c)))
      ⊢ iprop((((((c : Thread nD τ).loc cc0_scratch2) ↦[slotS r 0]{q} (cwBuf E c)) ∗ (((c : Thread nD τ).loc cc0_scratch2) ↦[slotS r 1]{q} (cwBuf E c)))
            -∗ wp frame (wpE (defs₀ (F := F)) 𝒱₀ (c : Thread nD τ) none) Set.univ (k (rowOf (E (before c r.val)))) Q)
          -∗ wp frame (wpE (defs₀ (F := F)) 𝒱₀ (c : Thread nD τ) none) Set.univ
              (.op (.load cwM (Rect.unit (s := S4x2x256x512) off S1x2x256x512.size inb).toLoadRect hl) k) Q) := by
  subst ho
  have hd : Disjoint (slotS r 0) (slotS r 1) := slotS_disjoint fun h => absurd (Prod.ext_iff.mp h).2 (by simp)
  have hu := pointsTo_union (ℓ := (c : Thread nD τ).loc cc0_scratch2) (Val := Elt F) (Ix := Unit) (Name := ℕ) (U := UU) (Lvl := ℕ) (q := q) (f := cwBuf E c) hd
  rw [slotS_union] at hu
  have hv : cwM.view.readAt (Elt F) (rowR r).toLoadRect (cwBuf E c) = rowOf (E (before c r.val)) := by
    funext x
    refine (congrArg (cwBuf E c) (row_emb r x)).trans ?_
    rfl
  refine hu.2.trans ?_
  iintro H Hk
  iapply (wp_load 𝒱₀ (c : Thread nD τ) none Set.univ (m := cwM) (S := rowS r)
    (show cwM.view.setOn (rowR r).set ⊆ rowS r from (Finset.map_refl (s := (rowR r).set)).le)) $$ [H]
  · iexact H
  iintro H
  rw [hv]
  iapply Hk
  iapply hu.1
  iexact H

theorem load_ccw (c : Dev nD) (r : Fin 4) (q : PosShare TreeShare) {off : Fin 4 → ℕ} (ho : off = ![r.val, 0, 0, 0])
    {inb : ∀ a, off a + S1x2x256x512.size a ≤ S4x2x256x512.size a}
    {hl : ccwM.view.LoadsAt (Rect.unit (s := S4x2x256x512) off S1x2x256x512.size inb).toLoadRect}
    {Q : α → sProp 𝕄} {k : (S1x2x256x512.Idx → Elt F .bf16) → Prog (TpuEff nD τ sig (Elt F) Λ₀ .tc) α} :
    iprop((((c : Thread nD τ).loc cc0_scratch3) ↦[slotS r 0]{q} (ccwBuf E c)) ∗ (((c : Thread nD τ).loc cc0_scratch3) ↦[slotS r 1]{q} (ccwBuf E c)))
      ⊢ iprop((((((c : Thread nD τ).loc cc0_scratch3) ↦[slotS r 0]{q} (ccwBuf E c)) ∗ (((c : Thread nD τ).loc cc0_scratch3) ↦[slotS r 1]{q} (ccwBuf E c)))
            -∗ wp frame (wpE (defs₀ (F := F)) 𝒱₀ (c : Thread nD τ) none) Set.univ (k (rowOf (E (beyond c r.val)))) Q)
          -∗ wp frame (wpE (defs₀ (F := F)) 𝒱₀ (c : Thread nD τ) none) Set.univ
              (.op (.load ccwM (Rect.unit (s := S4x2x256x512) off S1x2x256x512.size inb).toLoadRect hl) k) Q) := by
  subst ho
  have hd : Disjoint (slotS r 0) (slotS r 1) := slotS_disjoint fun h => absurd (Prod.ext_iff.mp h).2 (by simp)
  have hu := pointsTo_union (ℓ := (c : Thread nD τ).loc cc0_scratch3) (Val := Elt F) (Ix := Unit) (Name := ℕ) (U := UU) (Lvl := ℕ) (q := q) (f := ccwBuf E c) hd
  rw [slotS_union] at hu
  have hv : ccwM.view.readAt (Elt F) (rowR r).toLoadRect (ccwBuf E c) = rowOf (E (beyond c r.val)) := by
    funext x
    refine (congrArg (ccwBuf E c) (row_emb r x)).trans ?_
    rfl
  refine hu.2.trans ?_
  iintro H Hk
  iapply (wp_load 𝒱₀ (c : Thread nD τ) none Set.univ (m := ccwM) (S := rowS r)
    (show ccwM.view.setOn (rowR r).set ⊆ rowS r from (Finset.map_refl (s := (rowR r).set)).le)) $$ [H]
  · iexact H
  iintro H
  rw [hv]
  iapply Hk
  iapply hu.1
  iexact H

/-- A load of the columns of the gated tokens that meet device `o`'s pair. -/
theorem load_xg (c o : Dev nD) {off : Fin 2 → ℕ} (ho : off = ![0, 512 * o.val])
    {inb : ∀ a, off a + S512x512.size a ≤ S512x4096.size a}
    {hl : xgM.view.LoadsAt (Rect.unit (s := S512x4096) off S512x512.size inb).toLoadRect} (f : S512x4096.Idx → Elt F .bf16)
    {Q : α → sProp 𝕄} {k : (S512x512.Idx → Elt F .bf16) → Prog (TpuEff nD τ sig (Elt F) Λ₀ .tc) α} :
    (((c : Thread nD τ).loc cc0_scratch1 ↦{fullShare} f : sProp 𝕄))
      ⊢ iprop((((c : Thread nD τ).loc cc0_scratch1 ↦{fullShare} f)
            -∗ wp frame (wpE (defs₀ (F := F)) 𝒱₀ (c : Thread nD τ) none) Set.univ (k (xgBlk o f)) Q)
          -∗ wp frame (wpE (defs₀ (F := F)) 𝒱₀ (c : Thread nD τ) none) Set.univ
              (.op (.load xgM (Rect.unit (s := S512x4096) off S512x512.size inb).toLoadRect hl) k) Q) := by
  subst ho
  have hv : xgM.view.readAt (Elt F) (Rect.unit (s := S512x4096) ![0, 512 * o.val] S512x512.size inb).toLoadRect f = xgBlk o f := by
    funext x
    refine congrArg f ?_
    funext a
    apply Fin.ext
    fin_cases a
    · show 0 + 1 * (x 0).val = (x 0).val; omega
    · show 512 * o.val + 1 * (x 1).val = 512 * o.val + (x 1).val; omega
  iintro H Hk
  iapply (wp_load 𝒱₀ (c : Thread nD τ) none Set.univ (m := xgM) (S := Finset.univ) (Finset.subset_univ _)) $$ [H]
  · iexact H
  iintro H
  rw [hv]
  iapply Hk
  iexact H

/-- A load of a whole buffer. -/
theorem load_all (c : Dev nD) {cs : CoreSpace} {i : Fin (sig.nNear .tc cs)} {hκ : sig.names .tc cs i = true} {off : Fin (⟨cs, i, hκ⟩ : Ref sig .tc).ty.shape.rank → ℕ} (ho : off = fun _ => 0) {inb : ∀ a, off a + (⟨cs, i, hκ⟩ : Ref sig .tc).ty.shape.size a ≤ (⟨cs, i, hκ⟩ : Ref sig .tc).ty.shape.size a}
    {hl : (Memref.whole (⟨cs, i, hκ⟩ : Ref sig .tc) : Memref sig Kind.tc _ _ _).view.LoadsAt (Rect.unit off (⟨cs, i, hκ⟩ : Ref sig .tc).ty.shape.size inb).toLoadRect} (q : PosShare TreeShare) (f : (⟨cs, i, hκ⟩ : Ref sig .tc).ty.Contents (Elt F))
    {Q : α → sProp 𝕄} {k : (⟨cs, i, hκ⟩ : Ref sig .tc).ty.Contents (Elt F) → Prog (TpuEff nD τ sig (Elt F) Λ₀ .tc) α} :
    (((c : Thread nD τ).loc (⟨cs, i, hκ⟩ : Ref sig .tc) ↦{q} f : sProp 𝕄))
      ⊢ iprop((((c : Thread nD τ).loc (⟨cs, i, hκ⟩ : Ref sig .tc) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole (⟨cs, i, hκ⟩ : Ref sig .tc)) (Rect.unit off (⟨cs, i, hκ⟩ : Ref sig .tc).ty.shape.size inb).toLoadRect hl) k) Q) := by
  iintro H Hk
  iapply (wp_load 𝒱₀ (c : Thread nD τ) none Set.univ (m := Memref.whole (⟨cs, i, hκ⟩ : Ref sig .tc)) (S := Finset.univ) (Finset.subset_univ _)) $$ [H]
  · iexact H
  iintro H
  rw [Memref.readAt_unit_zero (Elt F) (⟨cs, i, hκ⟩ : Ref sig .tc) ho _ f]
  iapply Hk
  iexact H

/-- A store to a whole buffer. -/
theorem store_all (c : Dev nD) {cs : CoreSpace} {i : Fin (sig.nNear .tc cs)} {hκ : sig.names .tc cs i = true} {off : Fin (⟨cs, i, hκ⟩ : Ref sig .tc).ty.shape.rank → ℕ} (ho : off = fun _ => 0) {inb : ∀ a, off a + (⟨cs, i, hκ⟩ : Ref sig .tc).ty.shape.size a ≤ (⟨cs, i, hκ⟩ : Ref sig .tc).ty.shape.size a}
    {w : (⟨cs, i, hκ⟩ : Ref sig .tc).ty.Contents (Elt F)} {hx : ((Memref.whole (⟨cs, i, hκ⟩ : Ref sig .tc) : Memref sig Kind.tc _ _ _).access (Rect.unit off (⟨cs, i, hκ⟩ : Ref sig .tc).ty.shape.size inb)).Stores Finset.univ}
    {hm : Finset.univ = Finset.univ ∨ ∀ a, (Rect.unit off (⟨cs, i, hκ⟩ : Ref sig .tc).ty.shape.size inb).stride a = 1} (f : (⟨cs, i, hκ⟩ : Ref sig .tc).ty.Contents (Elt F))
    {Q : α → sProp 𝕄} {k : PUnit → Prog (TpuEff nD τ sig (Elt F) Λ₀ .tc) α} :
    (((c : Thread nD τ).loc (⟨cs, i, hκ⟩ : Ref sig .tc) ↦{fullShare} f : sProp 𝕄))
      ⊢ iprop((((c : Thread nD τ).loc (⟨cs, i, hκ⟩ : Ref sig .tc) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole (⟨cs, i, hκ⟩ : Ref sig .tc)) (Rect.unit off (⟨cs, i, hκ⟩ : Ref sig .tc).ty.shape.size inb) w Finset.univ hx hm) k) Q) := by
  iintro H Hk
  iapply (wp_store 𝒱₀ (c : Thread nD τ) none Set.univ (m := Memref.whole (⟨cs, i, hκ⟩ : Ref sig .tc)) (r := Rect.unit off (⟨cs, i, hκ⟩ : Ref sig .tc).ty.shape.size inb) (Mk := Finset.univ) (S := Finset.univ)
    (Finset.subset_univ _)) $$ [H]
  · iexact H
  iintro H
  rw [Memref.write_access_unit_zero_univ (Elt F) (⟨cs, i, hκ⟩ : Ref sig .tc) ho _ f w]
  iapply Hk
  iexact H

end Loads

end Cert.KernelIdeal.Ring

end
-- ==== Proof.Parts1.lean ====
/-
  The parts of the kernel's body, one theorem each: what a part needs of the device's memory and of its state in the protocol, and what it leaves.
  Here the handshake, the first copies, the gating of the tokens, and the shared experts' and the device's own contribution.
-/
module

public import proofs.«01_k».proof.Proof.Memory
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F) (K : Dev nD × Ci → ℕ)

theorem z2 : (![0, 0] : Fin 2 → ℕ) = fun _ => 0 := funext fun a => by fin_cases a <;> rfl
theorem z3 : (![0, 0, 0] : Fin 3 → ℕ) = fun _ => 0 := funext fun a => by fin_cases a <;> rfl

theorem w1 : (1#32 : BitVec 32).toInt = ((1 : ℕ) : ℤ) := by decide
theorem w3 : (3#32 : BitVec 32).toInt = ((3 : ℕ) : ℤ) := by decide

/-- The order in which a device waits for the arrivals. -/
abbrev arrivals : List Cp := [.cw 0 0, .cw 0 1, .ccw 0 0, .ccw 0 1, .cw 1 0, .cw 1 1, .ccw 1 0, .ccw 1 1, .cw 2 0, .cw 2 1, .ccw 2 0, .ccw 2 1, .z]

/-- The words the program computes for the device and its neighbours; the addresses are computed anew where they are used. -/
abbrev wSelf (c : Dev nD) : BitVec 32 := Scalar.remsi (Scalar.divsi (Dev.word c) 1#32) 8#32
abbrev wLeft (c : Dev nD) : BitVec 32 := Scalar.remsi (Scalar.subi (Scalar.addi (wSelf c) 8#32) 1#32) 8#32
abbrev wRight (c : Dev nD) : BitVec 32 := Scalar.remsi (Scalar.addi (wSelf c) 1#32) 8#32
abbrev wAcross (c : Dev nD) : BitVec 32 := Scalar.remsi (Scalar.addi (wSelf c) 4#32) 8#32

/-- The handshake: each partner gets the slots its copies will land in, and gives those for this device's copies; then the pair is narrowed. -/
theorem part1 (c : Dev nD) (W : Waits sig Unit) (xv : S512x256.Idx → Elt F .f32) (ewv : S2x256x512.Idx → Elt F .f32)
    {Q : (Σ' (d0 : Dev nD) (v2 : BitVec 32) (v5 : BitVec 32) (v7 : BitVec 32) (v9 : BitVec 32) (v18 : FVec F S512x256 .f32), BitVec 32) → sProp 𝕄} :
    iprop(recs E K ∗ levAts L lv ∗ owes (c : Thread nD τ) (O₀ c) W
        ∗ dutyTok ER (barCell (go 1 c)) 0 (opp 1) ∗ dutyTok ER (barCell (go 0 c)) 0 (opp 0) ∗ dutyTok ER (barCell (go 2 c)) 0 (opp 2)
        ∗ sepL (hole (F := F) c) (jsOf (opp 1)) ∗ sepL (hole (F := F) c) (jsOf (opp 0)) ∗ sepL (hole (F := F) c) (jsOf (opp 2))
        ∗ cred (tallyAt (barCell c) () 3) ∗ atPos ER (barCell c) 0 ∅ 0 ∗ sepL (ready (F := F) c) allCp ∗ sepL (await (F := F) c) arrivals
        ∗ (((c : Thread nD τ).loc cc0_stg0_0) ↦{fullShare} xv) ∗ (((c : Thread nD τ).loc cc0_stg3_0) ↦{fullShare} ewv) ∗ some (F := F) ((c : Thread nD τ).loc cc0_scratch0) Finset.univ)
      ⊢ iprop(((St (F := F) c allCp arrivals [] [bar] ∗ (((c : Thread nD τ).loc cc0_stg0_0) ↦{fullShare} xv) ∗ (((c : Thread nD τ).loc cc0_stg3_0) ↦{fullShare} ewv) ∗ (((c : Thread nD τ).loc cc0_scratch0) ↦{fullShare} (k0_pay2 ewv)))
            -∗ Q ⟨c, wSelf c, wLeft c, wRight c, wAcross c, k0_pay1 xv, 1#32⟩)
          -∗ wp frame (wpE (defs₀ (F := F)) 𝒱₀ (c : Thread nD τ) none) Set.univ (k0_part1 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) Q) := by
  rw [k0_part1_eq_skeleton]; unfold k0_part1_skel
  simp only [semSignalWord, semWaitWord, Prog.lift, Prog.bind_op, Prog.bind_ret, Prog.pure_eq_ret, Prog.bind_assoc, wp_deviceId]
  rw [w1, w3]
  iintro ⟨#HR, #Hlev, HO, T1, T0, T2, Hl1, Hl0, Hl2, Hc, Hat, HD, HA, Hx, Hew, Hb⟩ Hk
  unfold some
  icases Hb with ⟨%b, Hb⟩
  iapply (wp_hello E K c _ 1 (Fin.ext (k0_dev1_eq c)) (O := O₀ c) (O' := owedC c allCp + tallyAt (barCell (go 2 c)) () 1 + tallyAt (barCell (go 0 c)) () 1) rfl rfl) $$ [HO T1 Hl1]
  · isplitr; · iexact HR
    isplitl [HO]; · iexact HO
    isplitl [T1] <;> iassumption
  iintro HO
  iapply (wp_hello E K c _ 0 (Fin.ext (k0_dev2_eq c)) (O := owedC c allCp + tallyAt (barCell (go 2 c)) () 1 + tallyAt (barCell (go 0 c)) () 1) (O' := owedC c allCp + tallyAt (barCell (go 2 c)) () 1) rfl rfl) $$ [HO T0 Hl0]
  · isplitr; · iexact HR
    isplitl [HO]; · iexact HO
    isplitl [T0] <;> iassumption
  iintro HO
  iapply (wp_hello E K c _ 2 (Fin.ext (k0_dev3_eq c)) (O := owedC c allCp + tallyAt (barCell (go 2 c)) () 1) (O' := owedC c allCp) rfl rfl) $$ [HO T2 Hl2]
  · isplitr; · iexact HR
    isplitl [HO]; · iexact HO
    isplitl [T2] <;> iassumption
  iintro HO
  iapply (wp_meet E K c (Z := []) rfl) $$ [HO Hc Hat HD HA]
  · isplitr; · iexact HR
    isplitr; · iexact Hlev
    isplitl [HO]; · iexact HO
    isplitl [Hc]; · iexact Hc
    isplitl [Hat]; · iexact Hat
    isplitl [HD]; · iexact HD
    isplitl [HA]; · iexact HA
    rw [sepL_nil]; iempintro
  iintro HSt
  iapply (load_all c z2 fullShare xv) $$ Hx
  iintro Hx
  iapply (load_all c z3 fullShare ewv) $$ Hew
  iintro Hew
  iapply (load_all c z3 fullShare b) $$ Hb
  iintro Hb
  iapply (store_all c z3 b) $$ Hb
  iintro Hb
  rw [wp_ret]
  imodintro
  iapply Hk
  isplitl [HSt]; · iexact HSt
  isplitl [Hx]; · iexact Hx
  isplitl [Hew] <;> iassumption

/-- The copy across and the first copies of expert 0. -/
theorem part2 (c : Dev nD) {A S : List Cp} {D : List Cp} {Z : List (SemLoc sig)} (a1 a2 a3 a4 : BitVec 32) {Q : BitVec 32 → sProp 𝕄} :
    iprop(recs E K ∗ lent E c .z ∗ lent E c (.cw 0 0) ∗ lent E c (.ccw 0 0) ∗ St (F := F) c (.z :: .cw 0 0 :: .ccw 0 0 :: D) A S Z)
      ⊢ iprop((St (F := F) c D A (.ccw 0 0 :: .cw 0 0 :: .z :: S) Z -∗ Q 1#32) -∗ wp frame (wpE (defs₀ (F := F)) 𝒱₀ (c : Thread nD τ) none) Set.univ (k0_part2 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2 a3 a4) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HR, H1, H2, H3, HSt⟩ Hk
  iapply (start_z E K c _ (Fin.ext (k0_dev4_eq c)) rfl rfl rfl rfl) $$ [H1 HSt]
  · isplitr; · iexact HR
    isplitl [H1] <;> iassumption
  iintro HSt
  iapply (start_cw0 E K c _ 0 (Fin.ext (k0_dev5_eq c)) rfl rfl rfl rfl) $$ [H2 HSt]
  · isplitr; · iexact HR
    isplitl [H2] <;> iassumption
  iintro HSt
  iapply (start_ccw0 E K c _ 0 (Fin.ext (k0_dev6_eq c)) rfl rfl rfl rfl) $$ [H3 HSt]
  · isplitr; · iexact HR
    isplitl [H3] <;> iassumption
  iintro HSt
  rw [wp_ret]
  imodintro
  iapply Hk
  iexact HSt

/-- The first copies of expert 1, and the gating probabilities. -/
theorem part3 (c : Dev nD) {A S : List Cp} {D : List Cp} {Z : List (SemLoc sig)} (a1 a2 a4 : BitVec 32) (v18 : FVec F S512x256 .f32)
    (rwv : S256x16.Idx → Elt F .f32) (idxv : S512x1.Idx → Elt F .i32) {Q : (Σ' (v78 : FVec F S512x16 .f32), Vec F S512x1 .i32) → sProp 𝕄} :
    iprop(recs E K ∗ lent E c (.cw 0 1) ∗ lent E c (.ccw 0 1) ∗ St (F := F) c (.cw 0 1 :: .ccw 0 1 :: D) A S Z ∗ (((c : Thread nD τ).loc cc0_stg1_0) ↦{fullShare} rwv) ∗ (((c : Thread nD τ).loc cc0_stg2_0) ↦{fullShare} idxv))
      ⊢ iprop(((St (F := F) c D A (.ccw 0 1 :: .cw 0 1 :: S) Z ∗ (((c : Thread nD τ).loc cc0_stg1_0) ↦{fullShare} rwv) ∗ (((c : Thread nD τ).loc cc0_stg2_0) ↦{fullShare} idxv)) -∗ Q ⟨k0_pay3 v18 rwv, idxv⟩)
          -∗ wp frame (wpE (defs₀ (F := F)) 𝒱₀ (c : Thread nD τ) none) Set.univ (k0_part3 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2 v18 a4) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HR, H1, H2, HSt, Hrw, Hidx⟩ Hk
  iapply (start_cw0 E K c _ 1 (Fin.ext (k0_dev7_eq c)) rfl rfl rfl rfl) $$ [H1 HSt]
  · isplitr; · iexact HR
    isplitl [H1] <;> iassumption
  iintro HSt
  iapply (start_ccw0 E K c _ 1 (Fin.ext (k0_dev8_eq c)) rfl rfl rfl rfl) $$ [H2 HSt]
  · isplitr; · iexact HR
    isplitl [H2] <;> iassumption
  iintro HSt
  iapply (load_all c z2 fullShare rwv) $$ Hrw
  iintro Hrw
  iapply (load_all c z2 fullShare idxv) $$ Hidx
  iintro Hidx
  rw [wp_ret]
  imodintro
  iapply Hk
  isplitl [HSt]; · iexact HSt
  isplitl [Hrw] <;> iassumption

/-- The gated tokens, the shared experts' contribution, and that of the device's own pair. -/
theorem part4 (c : Dev nD) (a1 : BitVec 32) (v18 : FVec F S512x256 .f32) (v78 : FVec F S512x16 .f32) (v79 : S512x1.Idx → Elt F .i32)
    (swv : S256x512.Idx → Elt F .f32) {Q : PUnit → sProp 𝕄} :
    iprop(some (F := F) ((c : Thread nD τ).loc cc0_scratch1) Finset.univ ∗ some (F := F) ((c : Thread nD τ).loc cc0_stg5_0) Finset.univ
        ∗ (((c : Thread nD τ).loc cc0_stg4_0) ↦{fullShare} swv) ∗ (((c : Thread nD τ).loc cc0_scratch0) ↦{shKeep} (E c)))
      ⊢ iprop((((((c : Thread nD τ).loc cc0_scratch1) ↦{fullShare} (k0_pay4 v18 v78 v79)) ∗ (((c : Thread nD τ).loc cc0_stg5_0) ↦{fullShare} (k0_pay6 (xgBlk c (k0_pay4 v18 v78 v79)) (k0_pay5 v18 swv) (E c)))
          ∗ (((c : Thread nD τ).loc cc0_stg4_0) ↦{fullShare} swv) ∗ (((c : Thread nD τ).loc cc0_scratch0) ↦{shKeep} (E c))) -∗ Q ⟨⟩)
          -∗ wp frame (wpE (defs₀ (F := F)) 𝒱₀ (c : Thread nD τ) none) Set.univ (k0_part4 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 v18 v78 v79) Q) := by
  rw [k0_part4_eq_skeleton]; unfold k0_part4_skel
  simp only [semSignalWord, semWaitWord, Prog.lift, Prog.bind_op, Prog.bind_ret, Prog.pure_eq_ret, Prog.bind_assoc, wp_deviceId]
  unfold some
  iintro ⟨⟨%g, Hg⟩, ⟨%o, Ho⟩, Hsw, Hb⟩ Hk
  iapply (load_all c z2 fullShare g) $$ Hg
  iintro Hg
  iapply (store_all c z2 g) $$ Hg
  iintro Hg
  iapply (load_all c z2 fullShare swv) $$ Hsw
  iintro Hsw
  iapply (load_all c z2 fullShare o) $$ Ho
  iintro Ho
  iapply (store_all c z2 o) $$ Ho
  iintro Ho
  iapply (load_xg c c (k0_off1_eq c) (k0_pay4 v18 v78 v79)) $$ Hg
  iintro Hg
  iapply (load_all c z2 fullShare (k0_pay5 v18 swv)) $$ Ho
  iintro Ho
  iapply (load_all c z3 shKeep (E c)) $$ Hb
  iintro Hb
  iapply (load_all c z2 fullShare (k0_pay5 v18 swv)) $$ Ho
  iintro Ho
  iapply (store_all c z2 (k0_pay5 v18 swv)) $$ Ho
  iintro Ho
  rw [wp_ret]
  imodintro
  iapply Hk
  isplitl [Hg]; · iexact Hg
  isplitl [Ho]; · iexact Ho
  isplitl [Hsw] <;> iassumption

end Cert.KernelIdeal.Ring

end
-- ==== Proof.Parts2.lean ====
/-
  The parts of the kernel's body from the first forwarding on: the three hops around the ring, and the contribution of each pair when its two experts are there.
-/
module

public import proofs.«01_k».proof.Proof.Parts1

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F) (K : Dev nD × Ci → ℕ)

/-- An expert arrived that goes on: half of its slot's ownership is what the next copy reads through, the other half stays for the loads. -/
theorem pass_cw (c : Dev nD) (h h' : Fin 3) (r : Fin 4) (k : Fin 2) (h0 : h' ≠ 0) (h1 : h.succ = r) (h3 : h'.castSucc = r)
    {sp sp' : Space} {s s' : Shape} {e e' : EltTy} {src : Memref sig .tc sp' s' e'} {dst : Memref sig .tc sp s e}
    {s2 : DmaSem sig} (h2 : s2 = recvD (.cw h k)) {hsrc : src.view.WordExact} {hdst : dst.view.WordExact}
    {α : Type} {Q : α → sProp 𝕄} {k' : PUnit → Prog (TpuEff nD τ sig (Elt F) Λ₀ .tc) α}
    (hN : dst.view.dmaCredit = amt (.cw h k)) {D A S : List Cp} {Z : List (SemLoc sig)} (hlev : ∀ j' ∈ D, lvC (.cw h k) < lvC j') :
    iprop(recs E K ∗ levAts L lv ∗ St (F := F) c D (.cw h k :: A) S Z)
      ⊢ iprop(((St c D A S (.dma (recvD (.cw h k)) :: Z) ∗ lent E c (.cw h' k) ∗ keptCw E c r k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s2 src dst hsrc hdst) k') Q) := by
  iintro H Hk
  iapply (wp_arrive E K c (.cw h k) h2 hN hlev) $$ H
  iintro ⟨HSt, HM⟩
  iapply Hk
  isplitl [HSt]; · iexact HSt
  iapply (share_cw E c h h' r k h0 h1 h3).1
  iexact HM

/-- Row r as the staying halves of its two slots: loaded, it is the pair of the device it came from. -/
theorem row_cw (c : Dev nD) (r : Fin 4) (n : ℕ) (hr : r.val = n) {off : Fin 4 → ℕ} (ho : off = ![r.val, 0, 0, 0])
    {inb : ∀ a, off a + S1x2x256x512.size a ≤ S4x2x256x512.size a}
    {hl : cwM.view.LoadsAt (Rect.unit (s := S4x2x256x512) off S1x2x256x512.size inb).toLoadRect}
    {α : Type} {Q : α → sProp 𝕄} {k : (S1x2x256x512.Idx → Elt F .bf16) → Prog (TpuEff nD τ sig (Elt F) Λ₀ .tc) α} :
    iprop(keptCw E c r 0 ∗ keptCw E c r 1)
      ⊢ iprop(((keptCw E c r 0 ∗ keptCw E c r 1) -∗ wp frame (wpE (defs₀ (F := F)) 𝒱₀ (c : Thread nD τ) none) Set.univ (k (rowOf (E (before c n)))) Q)
          -∗ wp frame (wpE (defs₀ (F := F)) 𝒱₀ (c : Thread nD τ) none) Set.univ (.op (.load cwM (Rect.unit (s := S4x2x256x512) off S1x2x256x512.size inb).toLoadRect hl) k) Q) :=
  hr ▸ load_cw E c r fullShare.right ho

/-- The last row, wholly there. -/
theorem last_cw (c : Dev nD) {off : Fin 4 → ℕ} (ho : off = ![3, 0, 0, 0])
    {inb : ∀ a, off a + S1x2x256x512.size a ≤ S4x2x256x512.size a}
    {hl : cwM.view.LoadsAt (Rect.unit (s := S4x2x256x512) off S1x2x256x512.size inb).toLoadRect}
    {α : Type} {Q : α → sProp 𝕄} {k : (S1x2x256x512.Idx → Elt F .bf16) → Prog (TpuEff nD τ sig (Elt F) Λ₀ .tc) α} :
    iprop(landed E c (.cw 2 0) ∗ landed E c (.cw 2 1))
      ⊢ iprop(((landed E c (.cw 2 0) ∗ landed E c (.cw 2 1)) -∗ wp frame (wpE (defs₀ (F := F)) 𝒱₀ (c : Thread nD τ) none) Set.univ (k (rowOf (E (before c 3)))) Q)
          -∗ wp frame (wpE (defs₀ (F := F)) 𝒱₀ (c : Thread nD τ) none) Set.univ (.op (.load cwM (Rect.unit (s := S4x2x256x512) off S1x2x256x512.size inb).toLoadRect hl) k) Q) :=
  load_cw E c 3 fullShare ho

/-- An expert arrived that goes on: half of its slot's ownership is what the next copy reads through, the other half stays for the loads. -/
theorem pass_ccw (c : Dev nD) (h h' : Fin 3) (r : Fin 4) (k : Fin 2) (h0 : h' ≠ 0) (h1 : h.succ = r) (h3 : h'.castSucc = r)
    {sp sp' : Space} {s s' : Shape} {e e' : EltTy} {src : Memref sig .tc sp' s' e'} {dst : Memref sig .tc sp s e}
    {s2 : DmaSem sig} (h2 : s2 = recvD (.ccw h k)) {hsrc : src.view.WordExact} {hdst : dst.view.WordExact}
    {α : Type} {Q : α → sProp 𝕄} {k' : PUnit → Prog (TpuEff nD τ sig (Elt F) Λ₀ .tc) α}
    (hN : dst.view.dmaCredit = amt (.ccw h k)) {D A S : List Cp} {Z : List (SemLoc sig)} (hlev : ∀ j' ∈ D, lvC (.ccw h k) < lvC j') :
    iprop(recs E K ∗ levAts L lv ∗ St (F := F) c D (.ccw h k :: A) S Z)
      ⊢ iprop(((St c D A S (.dma (recvD (.ccw h k)) :: Z) ∗ lent E c (.ccw h' k) ∗ keptCcw E c r k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s2 src dst hsrc hdst) k') Q) := by
  iintro H Hk
  iapply (wp_arrive E K c (.ccw h k) h2 hN hlev) $$ H
  iintro ⟨HSt, HM⟩
  iapply Hk
  isplitl [HSt]; · iexact HSt
  iapply (share_ccw E c h h' r k h0 h1 h3).1
  iexact HM

/-- Row r as the staying halves of its two slots: loaded, it is the pair of the device it came from. -/
theorem row_ccw (c : Dev nD) (r : Fin 4) (n : ℕ) (hr : r.val = n) {off : Fin 4 → ℕ} (ho : off = ![r.val, 0, 0, 0])
    {inb : ∀ a, off a + S1x2x256x512.size a ≤ S4x2x256x512.size a}
    {hl : ccwM.view.LoadsAt (Rect.unit (s := S4x2x256x512) off S1x2x256x512.size inb).toLoadRect}
    {α : Type} {Q : α → sProp 𝕄} {k : (S1x2x256x512.Idx → Elt F .bf16) → Prog (TpuEff nD τ sig (Elt F) Λ₀ .tc) α} :
    iprop(keptCcw E c r 0 ∗ keptCcw E c r 1)
      ⊢ iprop(((keptCcw E c r 0 ∗ keptCcw E c r 1) -∗ wp frame (wpE (defs₀ (F := F)) 𝒱₀ (c : Thread nD τ) none) Set.univ (k (rowOf (E (beyond c n)))) Q)
          -∗ wp frame (wpE (defs₀ (F := F)) 𝒱₀ (c : Thread nD τ) none) Set.univ (.op (.load ccwM (Rect.unit (s := S4x2x256x512) off S1x2x256x512.size inb).toLoadRect hl) k) Q) :=
  hr ▸ load_ccw E c r fullShare.right ho

/-- The last row, wholly there. -/
theorem last_ccw (c : Dev nD) {off : Fin 4 → ℕ} (ho : off = ![3, 0, 0, 0])
    {inb : ∀ a, off a + S1x2x256x512.size a ≤ S4x2x256x512.size a}
    {hl : ccwM.view.LoadsAt (Rect.unit (s := S4x2x256x512) off S1x2x256x512.size inb).toLoadRect}
    {α : Type} {Q : α → sProp 𝕄} {k : (S1x2x256x512.Idx → Elt F .bf16) → Prog (TpuEff nD τ sig (Elt F) Λ₀ .tc) α} :
    iprop(landed E c (.ccw 2 0) ∗ landed E c (.ccw 2 1))
      ⊢ iprop(((landed E c (.ccw 2 0) ∗ landed E c (.ccw 2 1)) -∗ wp frame (wpE (defs₀ (F := F)) 𝒱₀ (c : Thread nD τ) none) Set.univ (k (rowOf (E (beyond c 3)))) Q)
          -∗ wp frame (wpE (defs₀ (F := F)) 𝒱₀ (c : Thread nD τ) none) Set.univ (.op (.load ccwM (Rect.unit (s := S4x2x256x512) off S1x2x256x512.size inb).toLoadRect hl) k) Q) :=
  load_ccw E c 3 fullShare ho

/-- The kernel's offsets into the gated tokens are the blocks of the device each pair came from. -/
theorem off_before (c : Dev nD) (r : Fin 3) : k0_off2 c (BitVec.ofNat 32 (1 + r.val)) = ![0, 512 * (before c (r.val + 1)).val] := by
  rw [k0_off2_eq]; revert c r; decide

theorem off_beyond (c : Dev nD) (r : Fin 4) : k0_off3 c (BitVec.ofNat 32 (1 + r.val)) = ![0, 512 * (beyond c (r.val + 1)).val] := by
  rw [k0_off3_eq]; revert c r; decide

/-- Expert 0 of the pair from below arrives; its first forwarding. -/
theorem part5 (c : Dev nD) {S : List Cp} {Z : List (SemLoc sig)} (a1 : BitVec 32) {Q : PUnit → sProp 𝕄} :
    iprop(recs E K ∗ levAts L lv ∗ St (F := F) c [.cw 1 0, .cw 1 1, .ccw 1 0, .ccw 1 1, .cw 2 0, .cw 2 1, .ccw 2 0, .ccw 2 1] [.cw 0 0, .cw 0 1, .ccw 0 0, .ccw 0 1, .cw 1 0, .cw 1 1, .ccw 1 0, .ccw 1 1, .cw 2 0, .cw 2 1, .ccw 2 0, .ccw 2 1, .z] S Z)
      ⊢ iprop(((St (F := F) c [.cw 1 1, .ccw 1 0, .ccw 1 1, .cw 2 0, .cw 2 1, .ccw 2 0, .ccw 2 1] [.cw 0 1, .ccw 0 0, .ccw 0 1, .cw 1 0, .cw 1 1, .ccw 1 0, .ccw 1 1, .cw 2 0, .cw 2 1, .ccw 2 0, .ccw 2 1, .z] (.cw 1 0 :: S) (.dma (recvD (.cw 0 0)) :: Z) ∗ keptCw E c 1 0)
            -∗ Q ⟨⟩)
          -∗ wp frame (wpE (defs₀ (F := F)) 𝒱₀ (c : Thread nD τ) none) Set.univ (k0_part5 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1) Q) := by
  rw [k0_part5_eq_skeleton]; unfold k0_part5_skel
  simp only [semSignalWord, semWaitWord, Prog.lift, Prog.bind_op, Prog.bind_ret, Prog.pure_eq_ret, Prog.bind_assoc, wp_deviceId]
  iintro ⟨#HR, #Hlev, HSt⟩ Hk
  iapply (pass_cw E K c 0 1 1 0 (D := [.cw 1 0, .cw 1 1, .ccw 1 0, .ccw 1 1, .cw 2 0, .cw 2 1, .ccw 2 0, .ccw 2 1]) (by decide) rfl rfl rfl rfl (by decide)) $$ [HSt]
  · isplitr; · iexact HR
    isplitr; · iexact Hlev
    iexact HSt
  iintro ⟨HSt, Lcw10, Kcw10⟩
  iapply (start_cw E K c _ 1 0 (by decide) (Fin.ext (k0_dev9_eq c)) rfl rfl rfl rfl) $$ [Lcw10 HSt]
  · isplitr; · iexact HR
    isplitl [Lcw10] <;> iassumption
  iintro HSt
  rw [wp_ret]
  imodintro
  iapply Hk
  isplitl [HSt]; · iexact HSt
  iexact Kcw10

/-- Expert 1 of it arrives and is forwarded; expert 0 of the pair from above arrives. -/
theorem part6 (c : Dev nD) {S : List Cp} {Z : List (SemLoc sig)} (a1 a2 : BitVec 32) {Q : BitVec 32 → sProp 𝕄} :
    iprop(recs E K ∗ levAts L lv ∗ St (F := F) c [.cw 1 1, .ccw 1 0, .ccw 1 1, .cw 2 0, .cw 2 1, .ccw 2 0, .ccw 2 1] [.cw 0 1, .ccw 0 0, .ccw 0 1, .cw 1 0, .cw 1 1, .ccw 1 0, .ccw 1 1, .cw 2 0, .cw 2 1, .ccw 2 0, .ccw 2 1, .z] S Z)
      ⊢ iprop(((St (F := F) c [.ccw 1 0, .ccw 1 1, .cw 2 0, .cw 2 1, .ccw 2 0, .ccw 2 1] [.ccw 0 1, .cw 1 0, .cw 1 1, .ccw 1 0, .ccw 1 1, .cw 2 0, .cw 2 1, .ccw 2 0, .ccw 2 1, .z] (.cw 1 1 :: S) (.dma (recvD (.ccw 0 0)) :: .dma (recvD (.cw 0 1)) :: Z) ∗ keptCw E c 1 1 ∗ lent E c (.ccw 1 0) ∗ keptCcw E c 1 0)
            -∗ Q 1#32)
          -∗ wp frame (wpE (defs₀ (F := F)) 𝒱₀ (c : Thread nD τ) none) Set.univ (k0_part6 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HR, #Hlev, HSt⟩ Hk
  iapply (pass_cw E K c 0 1 1 1 (D := [.cw 1 1, .ccw 1 0, .ccw 1 1, .cw 2 0, .cw 2 1, .ccw 2 0, .ccw 2 1]) (by decide) rfl rfl rfl rfl (by decide)) $$ [HSt]
  · isplitr; · iexact HR
    isplitr; · iexact Hlev
    iexact HSt
  iintro ⟨HSt, Lcw11, Kcw11⟩
  iapply (start_cw E K c _ 1 1 (by decide) (Fin.ext (k0_dev10_eq c)) rfl rfl rfl rfl) $$ [Lcw11 HSt]
  · isplitr; · iexact HR
    isplitl [Lcw11] <;> iassumption
  iintro HSt
  iapply (pass_ccw E K c 0 1 1 0 (D := [.ccw 1 0, .ccw 1 1, .cw 2 0, .cw 2 1, .ccw 2 0, .ccw 2 1]) (by decide) rfl rfl rfl rfl (by decide)) $$ [HSt]
  · isplitr; · iexact HR
    isplitr; · iexact Hlev
    iexact HSt
  iintro ⟨HSt, Lccw10, Kccw10⟩
  rw [wp_ret]
  imodintro
  iapply Hk
  isplitl [HSt]; · iexact HSt
  isplitl [Kcw11]; · iexact Kcw11
  isplitl [Lccw10]; · iexact Lccw10
  iexact Kccw10

/-- Expert 0 of the pair from above is forwarded; expert 1 of it arrives. -/
theorem part7 (c : Dev nD) {S : List Cp} {Z : List (SemLoc sig)} (a1 a2 : BitVec 32) {Q : PUnit → sProp 𝕄} :
    iprop(recs E K ∗ levAts L lv ∗ St (F := F) c [.ccw 1 0, .ccw 1 1, .cw 2 0, .cw 2 1, .ccw 2 0, .ccw 2 1] [.ccw 0 1, .cw 1 0, .cw 1 1, .ccw 1 0, .ccw 1 1, .cw 2 0, .cw 2 1, .ccw 2 0, .ccw 2 1, .z] S Z ∗ lent E c (.ccw 1 0))
      ⊢ iprop(((St (F := F) c [.ccw 1 1, .cw 2 0, .cw 2 1, .ccw 2 0, .ccw 2 1] [.cw 1 0, .cw 1 1, .ccw 1 0, .ccw 1 1, .cw 2 0, .cw 2 1, .ccw 2 0, .ccw 2 1, .z] (.ccw 1 0 :: S) (.dma (recvD (.ccw 0 1)) :: Z) ∗ lent E c (.ccw 1 1) ∗ keptCcw E c 1 1)
            -∗ Q ⟨⟩)
          -∗ wp frame (wpE (defs₀ (F := F)) 𝒱₀ (c : Thread nD τ) none) Set.univ (k0_part7 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2) Q) := by
  rw [k0_part7_eq_skeleton]; unfold k0_part7_skel
  simp only [semSignalWord, semWaitWord, Prog.lift, Prog.bind_op, Prog.bind_ret, Prog.pure_eq_ret, Prog.bind_assoc, wp_deviceId]
  iintro ⟨#HR, #Hlev, HSt, Lccw10⟩ Hk
  iapply (start_ccw E K c _ 1 0 (by decide) (Fin.ext (k0_dev11_eq c)) rfl rfl rfl rfl) $$ [Lccw10 HSt]
  · isplitr; · iexact HR
    isplitl [Lccw10] <;> iassumption
  iintro HSt
  iapply (pass_ccw E K c 0 1 1 1 (D := [.ccw 1 1, .cw 2 0, .cw 2 1, .ccw 2 0, .ccw 2 1]) (by decide) rfl rfl rfl rfl (by decide)) $$ [HSt]
  · isplitr; · iexact HR
    isplitr; · iexact Hlev
    iexact HSt
  iintro ⟨HSt, Lccw11, Kccw11⟩
  rw [wp_ret]
  imodintro
  iapply Hk
  isplitl [HSt]; · iexact HSt
  isplitl [Lccw11]; · iexact Lccw11
  iexact Kccw11

/-- The last forwarding of the first hop, and the contributions of the two neighbours' pairs; the second one is stored later. -/
theorem part8 (c : Dev nD) {S : List Cp} {Z : List (SemLoc sig)} (a1 : BitVec 32) (xg : S512x4096.Idx → Elt F .bf16) (acc : S512x512.Idx → Elt F .f32) {Q : (FVec F S512x512 .f32) → sProp 𝕄} :
    iprop(recs E K ∗ St (F := F) c [.ccw 1 1, .cw 2 0, .cw 2 1, .ccw 2 0, .ccw 2 1] [.cw 1 0, .cw 1 1, .ccw 1 0, .ccw 1 1, .cw 2 0, .cw 2 1, .ccw 2 0, .ccw 2 1, .z] S Z ∗ lent E c (.ccw 1 1) ∗ keptCw E c 1 0 ∗ keptCw E c 1 1 ∗ keptCcw E c 1 0 ∗ keptCcw E c 1 1 ∗ (((c : Thread nD τ).loc cc0_scratch1) ↦{fullShare} xg) ∗ (((c : Thread nD τ).loc cc0_stg5_0) ↦{fullShare} acc))
      ⊢ iprop(((St (F := F) c [.cw 2 0, .cw 2 1, .ccw 2 0, .ccw 2 1] [.cw 1 0, .cw 1 1, .ccw 1 0, .ccw 1 1, .cw 2 0, .cw 2 1, .ccw 2 0, .ccw 2 1, .z] (.ccw 1 1 :: S) Z ∗ keptCw E c 1 0 ∗ keptCw E c 1 1 ∗ keptCcw E c 1 0 ∗ keptCcw E c 1 1 ∗ (((c : Thread nD τ).loc cc0_scratch1) ↦{fullShare} xg) ∗ (((c : Thread nD τ).loc cc0_stg5_0) ↦{fullShare} (k0_pay7 (xgBlk (before c 1) xg) acc (rowOf (E (before c 1))))))
            -∗ Q (k0_pay8 (xgBlk (beyond c 1) xg) (k0_pay7 (xgBlk (before c 1) xg) acc (rowOf (E (before c 1)))) (rowOf (E (beyond c 1)))))
          -∗ wp frame (wpE (defs₀ (F := F)) 𝒱₀ (c : Thread nD τ) none) Set.univ (k0_part8 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HR, HSt, Lccw11, Kcw10, Kcw11, Kccw10, Kccw11, Hg, Ho⟩ Hk
  iapply (start_ccw E K c _ 1 1 (by decide) (Fin.ext (k0_dev12_eq c)) rfl rfl rfl rfl) $$ [Lccw11 HSt]
  · isplitr; · iexact HR
    isplitl [Lccw11] <;> iassumption
  iintro HSt
  iapply (load_xg c (before c 1) (off_before c 0) xg) $$ Hg
  iintro Hg
  iapply (load_all c z2 fullShare acc) $$ Ho
  iintro Ho
  iapply (row_cw E c 1 1 rfl rfl) $$ [Kcw10 Kcw11]
  · isplitl [Kcw10] <;> iassumption
  iintro ⟨Kcw10, Kcw11⟩
  iapply (load_all c z2 fullShare acc) $$ Ho
  iintro Ho
  iapply (store_all c z2 acc) $$ Ho
  iintro Ho
  iapply (load_xg c (beyond c 1) (off_beyond c 0) xg) $$ Hg
  iintro Hg
  iapply (load_all c z2 fullShare (k0_pay7 (xgBlk (before c 1) xg) acc (rowOf (E (before c 1))))) $$ Ho
  iintro Ho
  iapply (row_ccw E c 1 1 rfl rfl) $$ [Kccw10 Kccw11]
  · isplitl [Kccw10] <;> iassumption
  iintro ⟨Kccw10, Kccw11⟩
  rw [wp_ret]
  imodintro
  iapply Hk
  isplitl [HSt]; · iexact HSt
  isplitl [Kcw10]; · iexact Kcw10
  isplitl [Kcw11]; · iexact Kcw11
  isplitl [Kccw10]; · iexact Kccw10
  isplitl [Kccw11]; · iexact Kccw11
  isplitl [Hg]; · iexact Hg
  iexact Ho

/-- The store of that contribution; the second hop's first forwarding. -/
theorem part9 (c : Dev nD) {S : List Cp} {Z : List (SemLoc sig)} (a1 : BitVec 32) (v acc : S512x512.Idx → Elt F .f32) {Q : BitVec 32 → sProp 𝕄} :
    iprop(recs E K ∗ levAts L lv ∗ St (F := F) c [.cw 2 0, .cw 2 1, .ccw 2 0, .ccw 2 1] [.cw 1 0, .cw 1 1, .ccw 1 0, .ccw 1 1, .cw 2 0, .cw 2 1, .ccw 2 0, .ccw 2 1, .z] S Z ∗ (((c : Thread nD τ).loc cc0_stg5_0) ↦{fullShare} acc))
      ⊢ iprop(((St (F := F) c [.cw 2 1, .ccw 2 0, .ccw 2 1] [.cw 1 1, .ccw 1 0, .ccw 1 1, .cw 2 0, .cw 2 1, .ccw 2 0, .ccw 2 1, .z] (.cw 2 0 :: S) (.dma (recvD (.cw 1 0)) :: Z) ∗ (((c : Thread nD τ).loc cc0_stg5_0) ↦{fullShare} v) ∗ keptCw E c 2 0)
            -∗ Q 1#32)
          -∗ wp frame (wpE (defs₀ (F := F)) 𝒱₀ (c : Thread nD τ) none) Set.univ (k0_part9 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 v) Q) := by
  rw [k0_part9_eq_skeleton]; unfold k0_part9_skel
  simp only [semSignalWord, semWaitWord, Prog.lift, Prog.bind_op, Prog.bind_ret, Prog.pure_eq_ret, Prog.bind_assoc, wp_deviceId]
  iintro ⟨#HR, #Hlev, HSt, Ho⟩ Hk
  iapply (load_all c z2 fullShare acc) $$ Ho
  iintro Ho
  iapply (store_all c z2 acc) $$ Ho
  iintro Ho
  iapply (pass_cw E K c 1 2 2 0 (D := [.cw 2 0, .cw 2 1, .ccw 2 0, .ccw 2 1]) (by decide) rfl rfl rfl rfl (by decide)) $$ [HSt]
  · isplitr; · iexact HR
    isplitr; · iexact Hlev
    iexact HSt
  iintro ⟨HSt, Lcw20, Kcw20⟩
  iapply (start_cw E K c _ 2 0 (by decide) (Fin.ext (k0_dev13_eq c)) rfl rfl rfl rfl) $$ [Lcw20 HSt]
  · isplitr; · iexact HR
    isplitl [Lcw20] <;> iassumption
  iintro HSt
  rw [wp_ret]
  imodintro
  iapply Hk
  isplitl [HSt]; · iexact HSt
  isplitl [Ho]; · iexact Ho
  iexact Kcw20

/-- The second hop, expert 1 going up. -/
theorem part10 (c : Dev nD) {S : List Cp} {Z : List (SemLoc sig)} (a1 a2 a3 : BitVec 32) {Q : PUnit → sProp 𝕄} :
    iprop(recs E K ∗ levAts L lv ∗ St (F := F) c [.cw 2 1, .ccw 2 0, .ccw 2 1] [.cw 1 1, .ccw 1 0, .ccw 1 1, .cw 2 0, .cw 2 1, .ccw 2 0, .ccw 2 1, .z] S Z)
      ⊢ iprop(((St (F := F) c [.ccw 2 0, .ccw 2 1] [.ccw 1 0, .ccw 1 1, .cw 2 0, .cw 2 1, .ccw 2 0, .ccw 2 1, .z] (.cw 2 1 :: S) (.dma (recvD (.cw 1 1)) :: Z) ∗ keptCw E c 2 1)
            -∗ Q ⟨⟩)
          -∗ wp frame (wpE (defs₀ (F := F)) 𝒱₀ (c : Thread nD τ) none) Set.univ (k0_part10 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2 a3) Q) := by
  rw [k0_part10_eq_skeleton]; unfold k0_part10_skel
  simp only [semSignalWord, semWaitWord, Prog.lift, Prog.bind_op, Prog.bind_ret, Prog.pure_eq_ret, Prog.bind_assoc, wp_deviceId]
  iintro ⟨#HR, #Hlev, HSt⟩ Hk
  iapply (pass_cw E K c 1 2 2 1 (D := [.cw 2 1, .ccw 2 0, .ccw 2 1]) (by decide) rfl rfl rfl rfl (by decide)) $$ [HSt]
  · isplitr; · iexact HR
    isplitr; · iexact Hlev
    iexact HSt
  iintro ⟨HSt, Lcw21, Kcw21⟩
  iapply (start_cw E K c _ 2 1 (by decide) (Fin.ext (k0_dev14_eq c)) rfl rfl rfl rfl) $$ [Lcw21 HSt]
  · isplitr; · iexact HR
    isplitl [Lcw21] <;> iassumption
  iintro HSt
  rw [wp_ret]
  imodintro
  iapply Hk
  isplitl [HSt]; · iexact HSt
  iexact Kcw21

/-- The second hop, expert 0 going down; expert 1 arrives. -/
theorem part11 (c : Dev nD) {S : List Cp} {Z : List (SemLoc sig)} (a1 : BitVec 32) {Q : BitVec 32 → sProp 𝕄} :
    iprop(recs E K ∗ levAts L lv ∗ St (F := F) c [.ccw 2 0, .ccw 2 1] [.ccw 1 0, .ccw 1 1, .cw 2 0, .cw 2 1, .ccw 2 0, .ccw 2 1, .z] S Z)
      ⊢ iprop(((St (F := F) c [.ccw 2 1] [.cw 2 0, .cw 2 1, .ccw 2 0, .ccw 2 1, .z] (.ccw 2 0 :: S) (.dma (recvD (.ccw 1 1)) :: .dma (recvD (.ccw 1 0)) :: Z) ∗ keptCcw E c 2 0 ∗ lent E c (.ccw 2 1) ∗ keptCcw E c 2 1)
            -∗ Q (Scalar.muli a1 1#32))
          -∗ wp frame (wpE (defs₀ (F := F)) 𝒱₀ (c : Thread nD τ) none) Set.univ (k0_part11 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1) Q) := by
  rw [k0_part11_eq_skeleton]; unfold k0_part11_skel
  simp only [semSignalWord, semWaitWord, Prog.lift, Prog.bind_op, Prog.bind_ret, Prog.pure_eq_ret, Prog.bind_assoc, wp_deviceId]
  iintro ⟨#HR, #Hlev, HSt⟩ Hk
  iapply (pass_ccw E K c 1 2 2 0 (D := [.ccw 2 0, .ccw 2 1]) (by decide) rfl rfl rfl rfl (by decide)) $$ [HSt]
  · isplitr; · iexact HR
    isplitr; · iexact Hlev
    iexact HSt
  iintro ⟨HSt, Lccw20, Kccw20⟩
  iapply (start_ccw E K c _ 2 0 (by decide) (Fin.ext (k0_dev15_eq c)) rfl rfl rfl rfl) $$ [Lccw20 HSt]
  · isplitr; · iexact HR
    isplitl [Lccw20] <;> iassumption
  iintro HSt
  iapply (pass_ccw E K c 1 2 2 1 (D := [.ccw 2 1]) (by decide) rfl rfl rfl rfl (by decide)) $$ [HSt]
  · isplitr; · iexact HR
    isplitr; · iexact Hlev
    iexact HSt
  iintro ⟨HSt, Lccw21, Kccw21⟩
  rw [wp_ret]
  imodintro
  iapply Hk
  isplitl [HSt]; · iexact HSt
  isplitl [Kccw20]; · iexact Kccw20
  isplitl [Lccw21]; · iexact Lccw21
  iexact Kccw21

/-- The last forwarding, and the contribution of the pair from two below; the operands of the next one are read. -/
theorem part12 (c : Dev nD) {S : List Cp} {Z : List (SemLoc sig)} (a1 a2 : BitVec 32) (xg : S512x4096.Idx → Elt F .bf16) (acc : S512x512.Idx → Elt F .f32) {Q : (Σ' (v306 : Vec F S512x512 .bf16), Vec F S512x512 .f32) → sProp 𝕄} :
    iprop(recs E K ∗ St (F := F) c [.ccw 2 1] [.cw 2 0, .cw 2 1, .ccw 2 0, .ccw 2 1, .z] S Z ∗ lent E c (.ccw 2 1) ∗ keptCw E c 2 0 ∗ keptCw E c 2 1 ∗ (((c : Thread nD τ).loc cc0_scratch1) ↦{fullShare} xg) ∗ (((c : Thread nD τ).loc cc0_stg5_0) ↦{fullShare} acc))
      ⊢ iprop(((St (F := F) c [] [.cw 2 0, .cw 2 1, .ccw 2 0, .ccw 2 1, .z] (.ccw 2 1 :: S) Z ∗ keptCw E c 2 0 ∗ keptCw E c 2 1 ∗ (((c : Thread nD τ).loc cc0_scratch1) ↦{fullShare} xg) ∗ (((c : Thread nD τ).loc cc0_stg5_0) ↦{fullShare} (k0_pay9 (xgBlk (before c 2) xg) acc (rowOf (E (before c 2))))))
            -∗ Q ⟨xgBlk (beyond c 2) xg, (k0_pay9 (xgBlk (before c 2) xg) acc (rowOf (E (before c 2))))⟩)
          -∗ wp frame (wpE (defs₀ (F := F)) 𝒱₀ (c : Thread nD τ) none) Set.univ (k0_part12 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2) Q) := by
  rw [k0_part12_eq_skeleton]; unfold k0_part12_skel
  simp only [semSignalWord, semWaitWord, Prog.lift, Prog.bind_op, Prog.bind_ret, Prog.pure_eq_ret, Prog.bind_assoc, wp_deviceId]
  iintro ⟨#HR, HSt, Lccw21, Kcw20, Kcw21, Hg, Ho⟩ Hk
  iapply (start_ccw E K c _ 2 1 (by decide) (Fin.ext (k0_dev16_eq c)) rfl rfl rfl rfl) $$ [Lccw21 HSt]
  · isplitr; · iexact HR
    isplitl [Lccw21] <;> iassumption
  iintro HSt
  iapply (load_xg c (before c 2) (off_before c 1) xg) $$ Hg
  iintro Hg
  iapply (load_all c z2 fullShare acc) $$ Ho
  iintro Ho
  iapply (row_cw E c 2 2 rfl rfl) $$ [Kcw20 Kcw21]
  · isplitl [Kcw20] <;> iassumption
  iintro ⟨Kcw20, Kcw21⟩
  iapply (load_all c z2 fullShare acc) $$ Ho
  iintro Ho
  iapply (store_all c z2 acc) $$ Ho
  iintro Ho
  iapply (load_xg c (beyond c 2) (off_beyond c 1) xg) $$ Hg
  iintro Hg
  iapply (load_all c z2 fullShare (k0_pay9 (xgBlk (before c 2) xg) acc (rowOf (E (before c 2))))) $$ Ho
  iintro Ho
  rw [wp_ret]
  imodintro
  iapply Hk
  isplitl [HSt]; · iexact HSt
  isplitl [Kcw20]; · iexact Kcw20
  isplitl [Kcw21]; · iexact Kcw21
  isplitl [Hg]; · iexact Hg
  iexact Ho

/-- The contribution of the pair from two above; the last hop's first arrival. -/
theorem part13 (c : Dev nD) {S : List Cp} {Z : List (SemLoc sig)} (a1 : BitVec 32) (v : S512x512.Idx → Elt F .bf16) (acc acc' : S512x512.Idx → Elt F .f32) {Q : PUnit → sProp 𝕄} :
    iprop(recs E K ∗ levAts L lv ∗ St (F := F) c [] [.cw 2 0, .cw 2 1, .ccw 2 0, .ccw 2 1, .z] S Z ∗ keptCcw E c 2 0 ∗ keptCcw E c 2 1 ∗ (((c : Thread nD τ).loc cc0_stg5_0) ↦{fullShare} acc))
      ⊢ iprop(((St (F := F) c [] [.cw 2 1, .ccw 2 0, .ccw 2 1, .z] S (.dma (recvD (.cw 2 0)) :: Z) ∗ keptCcw E c 2 0 ∗ keptCcw E c 2 1 ∗ (((c : Thread nD τ).loc cc0_stg5_0) ↦{fullShare} (k0_pay10 v acc' (rowOf (E (beyond c 2))))) ∗ landed E c (.cw 2 0))
            -∗ Q ⟨⟩)
          -∗ wp frame (wpE (defs₀ (F := F)) 𝒱₀ (c : Thread nD τ) none) Set.univ (k0_part13 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 a1 v acc') Q) := by
  rw [k0_part13_eq_skeleton]; unfold k0_part13_skel
  simp only [semSignalWord, semWaitWord, Prog.lift, Prog.bind_op, Prog.bind_ret, Prog.pure_eq_ret, Prog.bind_assoc, wp_deviceId]
  iintro ⟨#HR, #Hlev, HSt, Kccw20, Kccw21, Ho⟩ Hk
  iapply (row_ccw E c 2 2 rfl rfl) $$ [Kccw20 Kccw21]
  · isplitl [Kccw20] <;> iassumption
  iintro ⟨Kccw20, Kccw21⟩
  iapply (load_all c z2 fullShare acc) $$ Ho
  iintro Ho
  iapply (store_all c z2 acc) $$ Ho
  iintro Ho
  iapply (wp_arrive E K c (.cw 2 0) (D := []) rfl rfl (by decide)) $$ [HSt]
  · isplitr; · iexact HR
    isplitr; · iexact Hlev
    iexact HSt
  iintro ⟨HSt, Mcw20⟩
  rw [wp_ret]
  imodintro
  iapply Hk
  isplitl [HSt]; · iexact HSt
  isplitl [Kccw20]; · iexact Kccw20
  isplitl [Kccw21]; · iexact Kccw21
  isplitl [Ho]; · iexact Ho
  iexact Mcw20

/-- The other arrivals of the last hop. -/
theorem part14 (c : Dev nD) {S : List Cp} {Z : List (SemLoc sig)} (a1 a2 : BitVec 32) (xg : S512x4096.Idx → Elt F .bf16) {Q : (Vec F S512x512 .bf16) → sProp 𝕄} :
    iprop(recs E K ∗ levAts L lv ∗ St (F := F) c [] [.cw 2 1, .ccw 2 0, .ccw 2 1, .z] S Z ∗ (((c : Thread nD τ).loc cc0_scratch1) ↦{fullShare} xg))
      ⊢ iprop(((St (F := F) c [] [.z] S (.dma (recvD (.ccw 2 1)) :: .dma (recvD (.ccw 2 0)) :: .dma (recvD (.cw 2 1)) :: Z) ∗ (((c : Thread nD τ).loc cc0_scratch1) ↦{fullShare} xg) ∗ landed E c (.cw 2 1) ∗ landed E c (.ccw 2 0) ∗ landed E c (.ccw 2 1))
            -∗ Q (xgBlk (before c 3) xg))
          -∗ wp frame (wpE (defs₀ (F := F)) 𝒱₀ (c : Thread nD τ) none) Set.univ (k0_part14 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2) Q) := by
  rw [k0_part14_eq_skeleton]; unfold k0_part14_skel
  simp only [semSignalWord, semWaitWord, Prog.lift, Prog.bind_op, Prog.bind_ret, Prog.pure_eq_ret, Prog.bind_assoc, wp_deviceId]
  iintro ⟨#HR, #Hlev, HSt, Hg⟩ Hk
  iapply (wp_arrive E K c (.cw 2 1) (D := []) rfl rfl (by decide)) $$ [HSt]
  · isplitr; · iexact HR
    isplitr; · iexact Hlev
    iexact HSt
  iintro ⟨HSt, Mcw21⟩
  iapply (wp_arrive E K c (.ccw 2 0) (D := []) rfl rfl (by decide)) $$ [HSt]
  · isplitr; · iexact HR
    isplitr; · iexact Hlev
    iexact HSt
  iintro ⟨HSt, Mccw20⟩
  iapply (wp_arrive E K c (.ccw 2 1) (D := []) rfl rfl (by decide)) $$ [HSt]
  · isplitr; · iexact HR
    isplitr; · iexact Hlev
    iexact HSt
  iintro ⟨HSt, Mccw21⟩
  iapply (load_xg c (before c 3) (off_before c 2) xg) $$ Hg
  iintro Hg
  rw [wp_ret]
  imodintro
  iapply Hk
  isplitl [HSt]; · iexact HSt
  isplitl [Hg]; · iexact Hg
  isplitl [Mcw21]; · iexact Mcw21
  isplitl [Mccw20]; · iexact Mccw20
  iexact Mccw21

/-- The contributions of the pairs from three below and three above; the pair from across arrives. -/
theorem part15 (c : Dev nD) {S : List Cp} {Z : List (SemLoc sig)} (a1 a2 : BitVec 32) (v : S512x512.Idx → Elt F .bf16) (xg : S512x4096.Idx → Elt F .bf16) (acc : S512x512.Idx → Elt F .f32) {Q : (Vec F S512x512 .bf16) → sProp 𝕄} :
    iprop(recs E K ∗ levAts L lv ∗ St (F := F) c [] [.z] S Z ∗ landed E c (.cw 2 0) ∗ landed E c (.cw 2 1) ∗ landed E c (.ccw 2 0) ∗ landed E c (.ccw 2 1) ∗ (((c : Thread nD τ).loc cc0_scratch1) ↦{fullShare} xg) ∗ (((c : Thread nD τ).loc cc0_stg5_0) ↦{fullShare} acc))
      ⊢ iprop(((St (F := F) c [] [] S (.dma (recvD (.z)) :: Z) ∗ landed E c (.cw 2 0) ∗ landed E c (.cw 2 1) ∗ landed E c (.ccw 2 0) ∗ landed E c (.ccw 2 1) ∗ (((c : Thread nD τ).loc cc0_scratch1) ↦{fullShare} xg) ∗ (((c : Thread nD τ).loc cc0_stg5_0) ↦{fullShare} (k0_pay12 (xgBlk (beyond c 3) xg) (k0_pay11 v acc (rowOf (E (before c 3)))) (rowOf (E (beyond c 3))))) ∗ landed E c (.z))
            -∗ Q (xgBlk (beyond c 4) xg))
          -∗ wp frame (wpE (defs₀ (F := F)) 𝒱₀ (c : Thread nD τ) none) Set.univ (k0_part15 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 c a1 a2 v) Q) := by
  rw [k0_part15_eq_skeleton]; unfold k0_part15_skel
  simp only [semSignalWord, semWaitWord, Prog.lift, Prog.bind_op, Prog.bind_ret, Prog.pure_eq_ret, Prog.bind_assoc, wp_deviceId]
  iintro ⟨#HR, #Hlev, HSt, Mcw20, Mcw21, Mccw20, Mccw21, Hg, Ho⟩ Hk
  iapply (load_all c z2 fullShare acc) $$ Ho
  iintro Ho
  iapply (last_cw E c rfl) $$ [Mcw20 Mcw21]
  · isplitl [Mcw20] <;> iassumption
  iintro ⟨Mcw20, Mcw21⟩
  iapply (load_all c z2 fullShare acc) $$ Ho
  iintro Ho
  iapply (store_all c z2 acc) $$ Ho
  iintro Ho
  iapply (load_xg c (beyond c 3) (off_beyond c 2) xg) $$ Hg
  iintro Hg
  iapply (load_all c z2 fullShare (k0_pay11 v acc (rowOf (E (before c 3))))) $$ Ho
  iintro Ho
  iapply (last_ccw E c rfl) $$ [Mccw20 Mccw21]
  · isplitl [Mccw20] <;> iassumption
  iintro ⟨Mccw20, Mccw21⟩
  iapply (load_all c z2 fullShare (k0_pay11 v acc (rowOf (E (before c 3))))) $$ Ho
  iintro Ho
  iapply (store_all c z2 (k0_pay11 v acc (rowOf (E (before c 3))))) $$ Ho
  iintro Ho
  iapply (wp_arrive E K c (.z) (D := []) rfl rfl (by decide)) $$ [HSt]
  · isplitr; · iexact HR
    isplitr; · iexact Hlev
    iexact HSt
  iintro ⟨HSt, Mz⟩
  iapply (load_xg c (beyond c 4) (off_beyond c 3) xg) $$ Hg
  iintro Hg
  rw [wp_ret]
  imodintro
  iapply Hk
  isplitl [HSt]; · iexact HSt
  isplitl [Mcw20]; · iexact Mcw20
  isplitl [Mcw21]; · iexact Mcw21
  isplitl [Mccw20]; · iexact Mccw20
  isplitl [Mccw21]; · iexact Mccw21
  isplitl [Hg]; · iexact Hg
  isplitl [Ho]; · iexact Ho
  iexact Mz

end Cert.KernelIdeal.Ring

end
-- ==== Proof.Parts3.lean ====
/-
  The end of the kernel's body: the contribution of the pair from across, and the waits for the outgoing copies.
-/
module

public import proofs.«01_k».proof.Proof.Parts2

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F) (K : Dev nD × Ci → ℕ)

/-- The pair from across, loaded whole. -/
theorem last_z (c : Dev nD) {inb : ∀ a, (![0, 0, 0] : Fin 3 → ℕ) a + S2x256x512.size a ≤ S2x256x512.size a}
    {hl : zM.view.LoadsAt (Rect.unit (s := S2x256x512) ![0, 0, 0] S2x256x512.size inb).toLoadRect}
    {α : Type} {Q : α → sProp 𝕄} {k : (S2x256x512.Idx → Elt F .bf16) → Prog (TpuEff nD τ sig (Elt F) Λ₀ .tc) α} :
    landed E c .z
      ⊢ iprop((landed E c .z -∗ wp frame (wpE (defs₀ (F := F)) 𝒱₀ (c : Thread nD τ) none) Set.univ (k (E (go 2 c))) Q)
          -∗ wp frame (wpE (defs₀ (F := F)) 𝒱₀ (c : Thread nD τ) none) Set.univ (.op (.load zM (Rect.unit (s := S2x256x512) ![0, 0, 0] S2x256x512.size inb).toLoadRect hl) k) Q) := by
  rw [landed_z]
  iintro H Hk
  iapply (load_all c z3 fullShare (E (go 2 c))) $$ H
  iexact Hk

/-- What a copy counts depends on its extent alone: the source counts what the destination does. -/
theorem credit_z : (ewbM : Memref sig .tc .vmem S2x256x512 .bf16).view.dmaCredit = amt .z := rfl

theorem credit_half_cw (h : Fin 3) (k : Fin 2) : (half k).view.dmaCredit = amt (.cw h k) := rfl

theorem credit_half_ccw (h : Fin 3) (k : Fin 2) : (half k).view.dmaCredit = amt (.ccw h k) := rfl

theorem credit_cw (r : Fin 4) (h : Fin 3) (k : Fin 2) : (cwSlot r k).view.dmaCredit = amt (.cw h k) := rfl

theorem credit_ccw (r : Fin 4) (h : Fin 3) (k : Fin 2) : (ccwSlot r k).view.dmaCredit = amt (.ccw h k) := rfl

/-- The contribution of the pair from across; the first outgoing copies are drained. -/
theorem part16 (c : Dev nD) {S : List Cp} {Z : List (SemLoc sig)} (v : S512x512.Idx → Elt F .bf16) (acc : S512x512.Idx → Elt F .f32) {Q : PUnit → sProp 𝕄} :
    iprop(recs E K ∗ St (F := F) c [] [] (.z :: .cw 0 0 :: .cw 0 1 :: S) Z ∗ landed E c (.z) ∗ (((c : Thread nD τ).loc cc0_stg5_0) ↦{fullShare} acc))
      ⊢ iprop(((St (F := F) c [] [] S (.dma (sendD (.cw 0 1)) :: .dma (sendD (.cw 0 0)) :: .dma (sendD (.z)) :: Z) ∗ landed E c (.z) ∗ (((c : Thread nD τ).loc cc0_stg5_0) ↦{fullShare} (k0_pay13 v acc (E (go 2 c)))) ∗ lent E c (.z) ∗ lent E c (.cw 0 0) ∗ lent E c (.cw 0 1))
            -∗ Q ⟨⟩)
          -∗ wp frame (wpE (defs₀ (F := F)) 𝒱₀ (c : Thread nD τ) none) Set.univ (k0_part16 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10 v) Q) := by
  rw [k0_part16_eq_skeleton]; unfold k0_part16_skel
  simp only [semSignalWord, semWaitWord, Prog.lift, Prog.bind_op, Prog.bind_ret, Prog.pure_eq_ret, Prog.bind_assoc, wp_deviceId]
  iintro ⟨#HR, HSt, Mz, Ho⟩ Hk
  iapply (load_all c z2 fullShare acc) $$ Ho
  iintro Ho
  iapply (last_z E c) $$ Mz
  iintro Mz
  iapply (load_all c z2 fullShare acc) $$ Ho
  iintro Ho
  iapply (store_all c z2 acc) $$ Ho
  iintro Ho
  iapply (wp_leave E K c (.z) (dst := ewbM) rfl (credit_z)) $$ [HSt]
  · isplitr; · iexact HR
    iexact HSt
  iintro ⟨HSt, Lz⟩
  iapply (wp_leave E K c (.cw 0 0) (dst := half 0) rfl (credit_half_cw 0 0)) $$ [HSt]
  · isplitr; · iexact HR
    iexact HSt
  iintro ⟨HSt, Lcw00⟩
  iapply (wp_leave E K c (.cw 0 1) (dst := half 1) rfl (credit_half_cw 0 1)) $$ [HSt]
  · isplitr; · iexact HR
    iexact HSt
  iintro ⟨HSt, Lcw01⟩
  rw [wp_ret]
  imodintro
  iapply Hk
  isplitl [HSt]; · iexact HSt
  isplitl [Mz]; · iexact Mz
  isplitl [Ho]; · iexact Ho
  isplitl [Lz]; · iexact Lz
  isplitl [Lcw00]; · iexact Lcw00
  iexact Lcw01

/-- Draining. -/
theorem part17 (c : Dev nD) {S : List Cp} {Z : List (SemLoc sig)} {Q : PUnit → sProp 𝕄} :
    iprop(recs E K ∗ St (F := F) c [] [] (.cw 1 0 :: .cw 1 1 :: .cw 2 0 :: S) Z)
      ⊢ iprop(((St (F := F) c [] [] S (.dma (sendD (.cw 2 0)) :: .dma (sendD (.cw 1 1)) :: .dma (sendD (.cw 1 0)) :: Z) ∗ lent E c (.cw 1 0) ∗ lent E c (.cw 1 1) ∗ lent E c (.cw 2 0))
            -∗ Q ⟨⟩)
          -∗ wp frame (wpE (defs₀ (F := F)) 𝒱₀ (c : Thread nD τ) none) Set.univ (k0_part17 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) Q) := by
  rw [k0_part17_eq_skeleton]; unfold k0_part17_skel
  simp only [semSignalWord, semWaitWord, Prog.lift, Prog.bind_op, Prog.bind_ret, Prog.pure_eq_ret, Prog.bind_assoc, wp_deviceId]
  iintro ⟨#HR, HSt⟩ Hk
  iapply (wp_leave E K c (.cw 1 0) (dst := cwSlot 1 0) rfl (credit_cw 1 1 0)) $$ [HSt]
  · isplitr; · iexact HR
    iexact HSt
  iintro ⟨HSt, Lcw10⟩
  iapply (wp_leave E K c (.cw 1 1) (dst := cwSlot 1 1) rfl (credit_cw 1 1 1)) $$ [HSt]
  · isplitr; · iexact HR
    iexact HSt
  iintro ⟨HSt, Lcw11⟩
  iapply (wp_leave E K c (.cw 2 0) (dst := cwSlot 2 0) rfl (credit_cw 2 2 0)) $$ [HSt]
  · isplitr; · iexact HR
    iexact HSt
  iintro ⟨HSt, Lcw20⟩
  rw [wp_ret]
  imodintro
  iapply Hk
  isplitl [HSt]; · iexact HSt
  isplitl [Lcw10]; · iexact Lcw10
  isplitl [Lcw11]; · iexact Lcw11
  iexact Lcw20

/-- Draining. -/
theorem part18 (c : Dev nD) {S : List Cp} {Z : List (SemLoc sig)} {Q : PUnit → sProp 𝕄} :
    iprop(recs E K ∗ St (F := F) c [] [] (.cw 2 1 :: .ccw 0 0 :: .ccw 0 1 :: S) Z)
      ⊢ iprop(((St (F := F) c [] [] S (.dma (sendD (.ccw 0 1)) :: .dma (sendD (.ccw 0 0)) :: .dma (sendD (.cw 2 1)) :: Z) ∗ lent E c (.cw 2 1) ∗ lent E c (.ccw 0 0) ∗ lent E c (.ccw 0 1))
            -∗ Q ⟨⟩)
          -∗ wp frame (wpE (defs₀ (F := F)) 𝒱₀ (c : Thread nD τ) none) Set.univ (k0_part18 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) Q) := by
  rw [k0_part18_eq_skeleton]; unfold k0_part18_skel
  simp only [semSignalWord, semWaitWord, Prog.lift, Prog.bind_op, Prog.bind_ret, Prog.pure_eq_ret, Prog.bind_assoc, wp_deviceId]
  iintro ⟨#HR, HSt⟩ Hk
  iapply (wp_leave E K c (.cw 2 1) (dst := cwSlot 2 1) rfl (credit_cw 2 2 1)) $$ [HSt]
  · isplitr; · iexact HR
    iexact HSt
  iintro ⟨HSt, Lcw21⟩
  iapply (wp_leave E K c (.ccw 0 0) (dst := half 0) rfl (credit_half_ccw 0 0)) $$ [HSt]
  · isplitr; · iexact HR
    iexact HSt
  iintro ⟨HSt, Lccw00⟩
  iapply (wp_leave E K c (.ccw 0 1) (dst := half 1) rfl (credit_half_ccw 0 1)) $$ [HSt]
  · isplitr; · iexact HR
    iexact HSt
  iintro ⟨HSt, Lccw01⟩
  rw [wp_ret]
  imodintro
  iapply Hk
  isplitl [HSt]; · iexact HSt
  isplitl [Lcw21]; · iexact Lcw21
  isplitl [Lccw00]; · iexact Lccw00
  iexact Lccw01

/-- Draining. -/
theorem part19 (c : Dev nD) {S : List Cp} {Z : List (SemLoc sig)} {Q : PUnit → sProp 𝕄} :
    iprop(recs E K ∗ St (F := F) c [] [] (.ccw 1 0 :: .ccw 1 1 :: .ccw 2 0 :: S) Z)
      ⊢ iprop(((St (F := F) c [] [] S (.dma (sendD (.ccw 2 0)) :: .dma (sendD (.ccw 1 1)) :: .dma (sendD (.ccw 1 0)) :: Z) ∗ lent E c (.ccw 1 0) ∗ lent E c (.ccw 1 1) ∗ lent E c (.ccw 2 0))
            -∗ Q ⟨⟩)
          -∗ wp frame (wpE (defs₀ (F := F)) 𝒱₀ (c : Thread nD τ) none) Set.univ (k0_part19 (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) Q) := by
  rw [k0_part19_eq_skeleton]; unfold k0_part19_skel
  simp only [semSignalWord, semWaitWord, Prog.lift, Prog.bind_op, Prog.bind_ret, Prog.pure_eq_ret, Prog.bind_assoc, wp_deviceId]
  iintro ⟨#HR, HSt⟩ Hk
  iapply (wp_leave E K c (.ccw 1 0) (dst := ccwSlot 1 0) rfl (credit_ccw 1 1 0)) $$ [HSt]
  · isplitr; · iexact HR
    iexact HSt
  iintro ⟨HSt, Lccw10⟩
  iapply (wp_leave E K c (.ccw 1 1) (dst := ccwSlot 1 1) rfl (credit_ccw 1 1 1)) $$ [HSt]
  · isplitr; · iexact HR
    iexact HSt
  iintro ⟨HSt, Lccw11⟩
  iapply (wp_leave E K c (.ccw 2 0) (dst := ccwSlot 2 0) rfl (credit_ccw 2 2 0)) $$ [HSt]
  · isplitr; · iexact HR
    iexact HSt
  iintro ⟨HSt, Lccw20⟩
  rw [wp_ret]
  imodintro
  iapply Hk
  isplitl [HSt]; · iexact HSt
  isplitl [Lccw10]; · iexact Lccw10
  isplitl [Lccw11]; · iexact Lccw11
  iexact Lccw20

end Cert.KernelIdeal.Ring

end
-- ==== Proof.Body.lean ====
/-
  The kernel's body on one device, from its parts: from the windows' contents, the scratch buffers at any contents and the device's share of the protocol
  to the output's contents, the scratch buffers again and every semaphore back at zero.
-/
module

public import proofs.«01_k».proof.Proof.Parts3

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F) (K : Dev nD × Ci → ℕ)

/-! ## The scratch buffers at the start and at the end -/

/-- A slot held whole is the hole a copy fills. -/
theorem hole_of_cw (c : Dev nD) (h : Fin 3) (k : Fin 2) (r : Fin 4) (hr : h.succ = r) :
    (some (F := F) ((c : Thread nD τ).loc cc0_scratch2) (slotS r k) : sProp 𝕄) ⊢ hole (F := F) c (.cw h k) := by
  subst hr; unfold some hole; exact BI.Entails.refl _
theorem hole_of_ccw (c : Dev nD) (h : Fin 3) (k : Fin 2) (r : Fin 4) (hr : h.succ = r) :
    (some (F := F) ((c : Thread nD τ).loc cc0_scratch3) (slotS r k) : sProp 𝕄) ⊢ hole (F := F) c (.ccw h k) := by
  subst hr; unfold some hole; exact BI.Entails.refl _
theorem hole_of_z (c : Dev nD) : (some (F := F) ((c : Thread nD τ).loc cc0_scratch4) Finset.univ : sProp 𝕄) ⊢ hole (F := F) c .z := by
  unfold some hole; exact BI.Entails.refl _

theorem ring2_enter (c : Dev nD) : (some (F := F) ((c : Thread nD τ).loc cc0_scratch2) Finset.univ : sProp 𝕄)
    ⊢ iprop(some (F := F) ((c : Thread nD τ).loc cc0_scratch2) (rowS 0) ∗ sepL (hole (F := F) c) (jsOf 0)) := by
  refine (ring2_split c).trans ?_
  unfold ringPieces2 pieces jsOf
  iintro ⟨H0, H1, H2, H3, H4, H5, H6⟩
  isplitl [H0]; · iexact H0
  simp only [sepL_cons, sepL_nil]
  isplitl [H1]; · iapply (hole_of_cw c 0 0 1 rfl); iexact H1
  isplitl [H2]; · iapply (hole_of_cw c 0 1 1 rfl); iexact H2
  isplitl [H3]; · iapply (hole_of_cw c 1 0 2 rfl); iexact H3
  isplitl [H4]; · iapply (hole_of_cw c 1 1 2 rfl); iexact H4
  isplitl [H5]; · iapply (hole_of_cw c 2 0 3 rfl); iexact H5
  isplitl [H6]; · iapply (hole_of_cw c 2 1 3 rfl); iexact H6
  iempintro

theorem ring3_enter (c : Dev nD) : (some (F := F) ((c : Thread nD τ).loc cc0_scratch3) Finset.univ : sProp 𝕄)
    ⊢ iprop(some (F := F) ((c : Thread nD τ).loc cc0_scratch3) (rowS 0) ∗ sepL (hole (F := F) c) (jsOf 1)) := by
  refine (ring3_split c).trans ?_
  unfold ringPieces3 pieces jsOf
  iintro ⟨H0, H1, H2, H3, H4, H5, H6⟩
  isplitl [H0]; · iexact H0
  simp only [sepL_cons, sepL_nil]
  isplitl [H1]; · iapply (hole_of_ccw c 0 0 1 rfl); iexact H1
  isplitl [H2]; · iapply (hole_of_ccw c 0 1 1 rfl); iexact H2
  isplitl [H3]; · iapply (hole_of_ccw c 1 0 2 rfl); iexact H3
  isplitl [H4]; · iapply (hole_of_ccw c 1 1 2 rfl); iexact H4
  isplitl [H5]; · iapply (hole_of_ccw c 2 0 3 rfl); iexact H5
  isplitl [H6]; · iapply (hole_of_ccw c 2 1 3 rfl); iexact H6
  iempintro

theorem z_enter (c : Dev nD) : (some (F := F) ((c : Thread nD τ).loc cc0_scratch4) Finset.univ : sProp 𝕄) ⊢ sepL (hole (F := F) c) (jsOf 2) := by
  unfold jsOf
  simp only [sepL_cons, sepL_nil]
  iintro H
  isplitl [H]; · iapply (hole_of_z c); iexact H
  iempintro

theorem landed_cw_some (c : Dev nD) (h : Fin 3) (k : Fin 2) (r : Fin 4) (hr : h.succ = r) :
    (landed E c (.cw h k) : sProp 𝕄) ⊢ some (F := F) ((c : Thread nD τ).loc cc0_scratch2) (slotS r k) := by
  subst hr
  rw [landed_cw]
  unfold some
  iintro H
  iexists (cwBuf E c)
  iexact H
theorem landed_ccw_some (c : Dev nD) (h : Fin 3) (k : Fin 2) (r : Fin 4) (hr : h.succ = r) :
    (landed E c (.ccw h k) : sProp 𝕄) ⊢ some (F := F) ((c : Thread nD τ).loc cc0_scratch3) (slotS r k) := by
  subst hr
  rw [landed_ccw]
  unfold some
  iintro H
  iexists (ccwBuf E c)
  iexact H

theorem landed_z_some (c : Dev nD) : (landed E c .z : sProp 𝕄) ⊢ some (F := F) ((c : Thread nD τ).loc cc0_scratch4) Finset.univ := by
  rw [landed_z]
  unfold some
  iintro H
  iexists (E (go 2 c))
  iexact H

/-- The ring buffer whole again: every forwarded slot from the half that came back and the half that stayed. -/
theorem ring2_leave (c : Dev nD) :
    iprop(some (F := F) ((c : Thread nD τ).loc cc0_scratch2) (rowS 0) ∗ lent E c (.cw 1 0) ∗ keptCw E c 1 0 ∗ lent E c (.cw 1 1) ∗ keptCw E c 1 1
        ∗ lent E c (.cw 2 0) ∗ keptCw E c 2 0 ∗ lent E c (.cw 2 1) ∗ keptCw E c 2 1 ∗ landed E c (.cw 2 0) ∗ landed E c (.cw 2 1))
      ⊢ (some (F := F) ((c : Thread nD τ).loc cc0_scratch2) Finset.univ : sProp 𝕄) := by
  refine BIBase.Entails.trans ?_ (ring2_join c)
  iintro ⟨H0, L1, K1, L2, K2, L3, K3, L4, K4, H5, H6⟩
  unfold ringPieces2 pieces
  isplitl [H0]; · iexact H0
  isplitl [L1 K1]
  · iapply (landed_cw_some E c 0 0 1 rfl)
    iapply (share_cw E c 0 1 1 0 (by decide) rfl rfl).2
    isplitl [L1] <;> iassumption
  isplitl [L2 K2]
  · iapply (landed_cw_some E c 0 1 1 rfl)
    iapply (share_cw E c 0 1 1 1 (by decide) rfl rfl).2
    isplitl [L2] <;> iassumption
  isplitl [L3 K3]
  · iapply (landed_cw_some E c 1 0 2 rfl)
    iapply (share_cw E c 1 2 2 0 (by decide) rfl rfl).2
    isplitl [L3] <;> iassumption
  isplitl [L4 K4]
  · iapply (landed_cw_some E c 1 1 2 rfl)
    iapply (share_cw E c 1 2 2 1 (by decide) rfl rfl).2
    isplitl [L4] <;> iassumption
  isplitl [H5]
  · iapply (landed_cw_some E c 2 0 3 rfl); iexact H5
  iapply (landed_cw_some E c 2 1 3 rfl); iexact H6

/-- The ring buffer whole again: every forwarded slot from the half that came back and the half that stayed. -/
theorem ring3_leave (c : Dev nD) :
    iprop(some (F := F) ((c : Thread nD τ).loc cc0_scratch3) (rowS 0) ∗ lent E c (.ccw 1 0) ∗ keptCcw E c 1 0 ∗ lent E c (.ccw 1 1) ∗ keptCcw E c 1 1
        ∗ lent E c (.ccw 2 0) ∗ keptCcw E c 2 0 ∗ lent E c (.ccw 2 1) ∗ keptCcw E c 2 1 ∗ landed E c (.ccw 2 0) ∗ landed E c (.ccw 2 1))
      ⊢ (some (F := F) ((c : Thread nD τ).loc cc0_scratch3) Finset.univ : sProp 𝕄) := by
  refine BIBase.Entails.trans ?_ (ring3_join c)
  iintro ⟨H0, L1, K1, L2, K2, L3, K3, L4, K4, H5, H6⟩
  unfold ringPieces3 pieces
  isplitl [H0]; · iexact H0
  isplitl [L1 K1]
  · iapply (landed_ccw_some E c 0 0 1 rfl)
    iapply (share_ccw E c 0 1 1 0 (by decide) rfl rfl).2
    isplitl [L1] <;> iassumption
  isplitl [L2 K2]
  · iapply (landed_ccw_some E c 0 1 1 rfl)
    iapply (share_ccw E c 0 1 1 1 (by decide) rfl rfl).2
    isplitl [L2] <;> iassumption
  isplitl [L3 K3]
  · iapply (landed_ccw_some E c 1 0 2 rfl)
    iapply (share_ccw E c 1 2 2 0 (by decide) rfl rfl).2
    isplitl [L3] <;> iassumption
  isplitl [L4 K4]
  · iapply (landed_ccw_some E c 1 1 2 rfl)
    iapply (share_ccw E c 1 2 2 1 (by decide) rfl rfl).2
    isplitl [L4] <;> iassumption
  isplitl [H5]
  · iapply (landed_ccw_some E c 2 0 3 rfl); iexact H5
  iapply (landed_ccw_some E c 2 1 3 rfl); iexact H6

/-- The copies out may be waited for in any order. -/
theorem St_perm (c : Dev nD) {D A S S' : List Cp} {Z : List (SemLoc sig)} (h : S.Perm S') : (St (F := F) c D A S Z : sProp 𝕄) ⊢ St c D A S' Z := by
  unfold St
  exact sep_mono_right (sep_mono_right (sep_mono_right (sep_mono_right (BI.sep_mono (sepL_perm _ h) (BI.Entails.refl _)))))

/-! ## What the output holds -/

/-- The gated tokens: block e of row i is token i, scaled by its probability of expert e if e is the expert it is routed to. -/
def gated (xv : S512x256.Idx → Elt F .f32) (rwv : S256x16.Idx → Elt F .f32) (idxv : S512x1.Idx → Elt F .i32) : S512x4096.Idx → Elt F .bf16 :=
  k0_pay4 (k0_pay1 xv) (k0_pay3 (k0_pay1 xv) rwv) idxv

/-- The output of device c, from its gated tokens g and the shared experts' contribution s: the pairs' contributions are added in the order of their arrival. -/
def acc1 (c : Dev nD) (g : S512x4096.Idx → Elt F .bf16) (s : S512x512.Idx → Elt F .f32) : S512x512.Idx → Elt F .f32 := k0_pay6 (xgBlk c g) s (E c)
def acc2 (c : Dev nD) (g : S512x4096.Idx → Elt F .bf16) (s : S512x512.Idx → Elt F .f32) : S512x512.Idx → Elt F .f32 := k0_pay7 (xgBlk (before c 1) g) (acc1 E c g s) (rowOf (E (before c 1)))
def acc3 (c : Dev nD) (g : S512x4096.Idx → Elt F .bf16) (s : S512x512.Idx → Elt F .f32) : S512x512.Idx → Elt F .f32 := k0_pay8 (xgBlk (beyond c 1) g) (acc2 E c g s) (rowOf (E (beyond c 1)))
def acc4 (c : Dev nD) (g : S512x4096.Idx → Elt F .bf16) (s : S512x512.Idx → Elt F .f32) : S512x512.Idx → Elt F .f32 := k0_pay9 (xgBlk (before c 2) g) (acc3 E c g s) (rowOf (E (before c 2)))
def acc5 (c : Dev nD) (g : S512x4096.Idx → Elt F .bf16) (s : S512x512.Idx → Elt F .f32) : S512x512.Idx → Elt F .f32 := k0_pay10 (xgBlk (beyond c 2) g) (acc4 E c g s) (rowOf (E (beyond c 2)))
def acc6 (c : Dev nD) (g : S512x4096.Idx → Elt F .bf16) (s : S512x512.Idx → Elt F .f32) : S512x512.Idx → Elt F .f32 := k0_pay11 (xgBlk (before c 3) g) (acc5 E c g s) (rowOf (E (before c 3)))
def acc7 (c : Dev nD) (g : S512x4096.Idx → Elt F .bf16) (s : S512x512.Idx → Elt F .f32) : S512x512.Idx → Elt F .f32 := k0_pay12 (xgBlk (beyond c 3) g) (acc6 E c g s) (rowOf (E (beyond c 3)))
def acc8 (c : Dev nD) (g : S512x4096.Idx → Elt F .bf16) (s : S512x512.Idx → Elt F .f32) : S512x512.Idx → Elt F .f32 := k0_pay13 (xgBlk (beyond c 4) g) (acc7 E c g s) (E (go 2 c))

/-- The output of device c. -/
def result (c : Dev nD) (xv : S512x256.Idx → Elt F .f32) (rwv : S256x16.Idx → Elt F .f32) (idxv : S512x1.Idx → Elt F .i32) (swv : S256x512.Idx → Elt F .f32) :
    S512x512.Idx → Elt F .f32 := acc8 E c (gated xv rwv idxv) (k0_pay5 (k0_pay1 xv) swv)

/-- The semaphores of the protocol, all back at zero in the end. -/
abbrev closed : List (SemLoc sig) :=
  [.dma (sendD (.ccw 2 1)), .dma (sendD (.ccw 2 0)), .dma (sendD (.ccw 1 1)), .dma (sendD (.ccw 1 0)), .dma (sendD (.ccw 0 1)), .dma (sendD (.ccw 0 0)), .dma (sendD (.cw 2 1)), .dma (sendD (.cw 2 0)), .dma (sendD (.cw 1 1)), .dma (sendD (.cw 1 0)), .dma (sendD (.cw 0 1)), .dma (sendD (.cw 0 0)), .dma (sendD (.z)),
    .dma (recvD (.z)), .dma (recvD (.ccw 2 1)), .dma (recvD (.ccw 2 0)), .dma (recvD (.cw 2 1)), .dma (recvD (.cw 2 0)), .dma (recvD (.ccw 1 1)), .dma (recvD (.ccw 1 0)), .dma (recvD (.cw 1 1)), .dma (recvD (.cw 1 0)), .dma (recvD (.ccw 0 1)), .dma (recvD (.ccw 0 0)), .dma (recvD (.cw 0 1)), .dma (recvD (.cw 0 0)), bar]

/-! ## The body -/

/-- The body of device c, where every device's narrowed pair is the one E names. -/
theorem body_run (c : Dev nD) (W : Waits sig Unit) (xv : S512x256.Idx → Elt F .f32) (rwv : S256x16.Idx → Elt F .f32) (idxv : S512x1.Idx → Elt F .i32)
    (ewv : S2x256x512.Idx → Elt F .f32) (swv : S256x512.Idx → Elt F .f32) (hE : E c = k0_pay2 ewv) {Q : PUnit → sProp 𝕄} :
    iprop(recs E K ∗ levAts L lv ∗ owes (c : Thread nD τ) (O₀ c) W
        ∗ dutyTok ER (barCell (go 1 c)) 0 (opp 1) ∗ dutyTok ER (barCell (go 0 c)) 0 (opp 0) ∗ dutyTok ER (barCell (go 2 c)) 0 (opp 2)
        ∗ cred (tallyAt (barCell c) () 3) ∗ atPos ER (barCell c) 0 ∅ 0 ∗ sepL (ready (F := F) c) allCp ∗ sepL (await (F := F) c) arrivals
        ∗ (((c : Thread nD τ).loc cc0_stg0_0) ↦{fullShare} xv) ∗ (((c : Thread nD τ).loc cc0_stg1_0) ↦{fullShare} rwv) ∗ (((c : Thread nD τ).loc cc0_stg2_0) ↦{fullShare} idxv) ∗ (((c : Thread nD τ).loc cc0_stg3_0) ↦{fullShare} ewv) ∗ (((c : Thread nD τ).loc cc0_stg4_0) ↦{fullShare} swv)
        ∗ some (F := F) ((c : Thread nD τ).loc cc0_stg5_0) Finset.univ
        ∗ some (F := F) ((c : Thread nD τ).loc cc0_scratch0) Finset.univ ∗ some (F := F) ((c : Thread nD τ).loc cc0_scratch1) Finset.univ
        ∗ some (F := F) ((c : Thread nD τ).loc cc0_scratch2) Finset.univ ∗ some (F := F) ((c : Thread nD τ).loc cc0_scratch3) Finset.univ
        ∗ some (F := F) ((c : Thread nD τ).loc cc0_scratch4) Finset.univ)
      ⊢ iprop((((∃ W, owes (c : Thread nD τ) 0 W) ∗ sepL (zero (F := F) c) closed
          ∗ (((c : Thread nD τ).loc cc0_stg0_0) ↦{fullShare} xv) ∗ (((c : Thread nD τ).loc cc0_stg1_0) ↦{fullShare} rwv) ∗ (((c : Thread nD τ).loc cc0_stg2_0) ↦{fullShare} idxv) ∗ (((c : Thread nD τ).loc cc0_stg3_0) ↦{fullShare} ewv) ∗ (((c : Thread nD τ).loc cc0_stg4_0) ↦{fullShare} swv)
          ∗ (((c : Thread nD τ).loc cc0_stg5_0) ↦{fullShare} (result E c xv rwv idxv swv))
          ∗ some (F := F) ((c : Thread nD τ).loc cc0_scratch0) Finset.univ ∗ some (F := F) ((c : Thread nD τ).loc cc0_scratch1) Finset.univ
          ∗ some (F := F) ((c : Thread nD τ).loc cc0_scratch2) Finset.univ ∗ some (F := F) ((c : Thread nD τ).loc cc0_scratch3) Finset.univ
          ∗ some (F := F) ((c : Thread nD τ).loc cc0_scratch4) Finset.univ) -∗ Q ⟨⟩)
        -∗ wp frame (wpE (defs₀ (F := F)) 𝒱₀ (c : Thread nD τ) none) Set.univ (cc0_body (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) Q) := by
  unfold cc0_body
  simp only [Prog.lift, Prog.bind_op, Prog.bind_ret, Prog.pure_eq_ret, Prog.bind_assoc]
  iintro ⟨#HR, #Hlev, HO, T1, T0, T2, Hc, Hat, HD, HA, Hx, Hrw, Hidx, Hew, Hsw, Ho, Hb, Hg, H2, H3, H4⟩ Hk
  ihave H2 := (ring2_enter c) $$ H2
  icases H2 with ⟨R2, H2⟩
  ihave H3 := (ring3_enter c) $$ H3
  icases H3 with ⟨R3, H3⟩
  ihave H4 := (z_enter c) $$ H4
  rw [wp_bind]
  iapply (part1 E K c W xv ewv) $$ [HO T1 T0 T2 H2 H3 H4 Hc Hat HD HA Hx Hew Hb]
  · isplitr; · iexact HR
    isplitr; · iexact Hlev
    isplitl [HO]; · iexact HO
    isplitl [T1]; · iexact T1
    isplitl [T0]; · iexact T0
    isplitl [T2]; · iexact T2
    isplitl [H2]; · iexact H2
    isplitl [H3]; · iexact H3
    isplitl [H4]; · iexact H4
    isplitl [Hc]; · iexact Hc
    isplitl [Hat]; · iexact Hat
    isplitl [HD]; · iexact HD
    isplitl [HA]; · iexact HA
    isplitl [Hx]; · iexact Hx
    isplitl [Hew]; · iexact Hew
    iexact Hb
  iintro ⟨HSt, Hx, Hew, Hb⟩
  try dsimp only
  rw [← hE]
  ihave Hb := (pair_split E c) $$ Hb
  icases Hb with ⟨Lz, Hb, Lcw00, Lcw01, Lccw00, Lccw01⟩
  rw [wp_bind]
  iapply (part2 E K c _ _ _ _) $$ [Lz Lcw00 Lccw00 HSt]
  · isplitr; · iexact HR
    isplitl [Lz]; · iexact Lz
    isplitl [Lcw00]; · iexact Lcw00
    isplitl [Lccw00]; · iexact Lccw00
    iexact HSt
  iintro HSt
  try dsimp only
  rw [wp_bind]
  iapply (part3 E K c _ _ _ _ rwv idxv) $$ [Lcw01 Lccw01 HSt Hrw Hidx]
  · isplitr; · iexact HR
    isplitl [Lcw01]; · iexact Lcw01
    isplitl [Lccw01]; · iexact Lccw01
    isplitl [HSt]; · iexact HSt
    isplitl [Hrw]; · iexact Hrw
    iexact Hidx
  iintro ⟨HSt, Hrw, Hidx⟩
  try dsimp only
  rw [wp_bind]
  iapply (part4 E c _ _ _ _ swv) $$ [Hg Ho Hsw Hb]
  · isplitl [Hg]; · iexact Hg
    isplitl [Ho]; · iexact Ho
    isplitl [Hsw]; · iexact Hsw
    iexact Hb
  iintro ⟨Hg, Ho, Hsw, Hb⟩
  try dsimp only
  rw [wp_bind]
  iapply (part5 E K c _) $$ [HSt]
  · isplitr; · iexact HR
    isplitr; · iexact Hlev
    iexact HSt
  iintro ⟨HSt, Kcw10⟩
  try dsimp only
  rw [wp_bind]
  iapply (part6 E K c _ _) $$ [HSt]
  · isplitr; · iexact HR
    isplitr; · iexact Hlev
    iexact HSt
  iintro ⟨HSt, Kcw11, Lccw10, Kccw10⟩
  try dsimp only
  rw [wp_bind]
  iapply (part7 E K c _ _) $$ [HSt Lccw10]
  · isplitr; · iexact HR
    isplitr; · iexact Hlev
    isplitl [HSt]; · iexact HSt
    iexact Lccw10
  iintro ⟨HSt, Lccw11, Kccw11⟩
  try dsimp only
  rw [wp_bind]
  iapply (part8 E K c _ (gated xv rwv idxv) (acc1 E c (gated xv rwv idxv) (k0_pay5 (k0_pay1 xv) swv))) $$ [HSt Lccw11 Kcw10 Kcw11 Kccw10 Kccw11 Hg Ho]
  · isplitr; · iexact HR
    isplitl [HSt]; · iexact HSt
    isplitl [Lccw11]; · iexact Lccw11
    isplitl [Kcw10]; · iexact Kcw10
    isplitl [Kcw11]; · iexact Kcw11
    isplitl [Kccw10]; · iexact Kccw10
    isplitl [Kccw11]; · iexact Kccw11
    isplitl [Hg]; · iexact Hg
    iexact Ho
  iintro ⟨HSt, Kcw10, Kcw11, Kccw10, Kccw11, Hg, Ho⟩
  try dsimp only
  rw [wp_bind]
  iapply (part9 E K c _ (acc3 E c (gated xv rwv idxv) (k0_pay5 (k0_pay1 xv) swv)) (acc2 E c (gated xv rwv idxv) (k0_pay5 (k0_pay1 xv) swv))) $$ [HSt Ho]
  · isplitr; · iexact HR
    isplitr; · iexact Hlev
    isplitl [HSt]; · iexact HSt
    iexact Ho
  iintro ⟨HSt, Ho, Kcw20⟩
  try dsimp only
  rw [wp_bind]
  iapply (part10 E K c _ _ _) $$ [HSt]
  · isplitr; · iexact HR
    isplitr; · iexact Hlev
    iexact HSt
  iintro ⟨HSt, Kcw21⟩
  try dsimp only
  rw [wp_bind]
  iapply (part11 E K c _) $$ [HSt]
  · isplitr; · iexact HR
    isplitr; · iexact Hlev
    iexact HSt
  iintro ⟨HSt, Kccw20, Lccw21, Kccw21⟩
  try dsimp only
  rw [wp_bind]
  iapply (part12 E K c _ _ (gated xv rwv idxv) (acc3 E c (gated xv rwv idxv) (k0_pay5 (k0_pay1 xv) swv))) $$ [HSt Lccw21 Kcw20 Kcw21 Hg Ho]
  · isplitr; · iexact HR
    isplitl [HSt]; · iexact HSt
    isplitl [Lccw21]; · iexact Lccw21
    isplitl [Kcw20]; · iexact Kcw20
    isplitl [Kcw21]; · iexact Kcw21
    isplitl [Hg]; · iexact Hg
    iexact Ho
  iintro ⟨HSt, Kcw20, Kcw21, Hg, Ho⟩
  try dsimp only
  rw [wp_bind]
  iapply (part13 E K c _ (xgBlk (beyond c 2) (gated xv rwv idxv)) (acc4 E c (gated xv rwv idxv) (k0_pay5 (k0_pay1 xv) swv)) (acc4 E c (gated xv rwv idxv) (k0_pay5 (k0_pay1 xv) swv))) $$ [HSt Kccw20 Kccw21 Ho]
  · isplitr; · iexact HR
    isplitr; · iexact Hlev
    isplitl [HSt]; · iexact HSt
    isplitl [Kccw20]; · iexact Kccw20
    isplitl [Kccw21]; · iexact Kccw21
    iexact Ho
  iintro ⟨HSt, Kccw20, Kccw21, Ho, Mcw20⟩
  try dsimp only
  rw [wp_bind]
  iapply (part14 E K c _ _ (gated xv rwv idxv)) $$ [HSt Hg]
  · isplitr; · iexact HR
    isplitr; · iexact Hlev
    isplitl [HSt]; · iexact HSt
    iexact Hg
  iintro ⟨HSt, Hg, Mcw21, Mccw20, Mccw21⟩
  try dsimp only
  rw [wp_bind]
  iapply (part15 E K c _ _ (xgBlk (before c 3) (gated xv rwv idxv)) (gated xv rwv idxv) (acc5 E c (gated xv rwv idxv) (k0_pay5 (k0_pay1 xv) swv))) $$ [HSt Mcw20 Mcw21 Mccw20 Mccw21 Hg Ho]
  · isplitr; · iexact HR
    isplitr; · iexact Hlev
    isplitl [HSt]; · iexact HSt
    isplitl [Mcw20]; · iexact Mcw20
    isplitl [Mcw21]; · iexact Mcw21
    isplitl [Mccw20]; · iexact Mccw20
    isplitl [Mccw21]; · iexact Mccw21
    isplitl [Hg]; · iexact Hg
    iexact Ho
  iintro ⟨HSt, Mcw20, Mcw21, Mccw20, Mccw21, Hg, Ho, Mz⟩
  try dsimp only
  ihave HSt := (St_perm (S' := [.z, .cw 0 0, .cw 0 1, .cw 1 0, .cw 1 1, .cw 2 0, .cw 2 1, .ccw 0 0, .ccw 0 1, .ccw 1 0, .ccw 1 1, .ccw 2 0, .ccw 2 1]) c (by decide)) $$ HSt
  rw [wp_bind]
  iapply (part16 E K c (xgBlk (beyond c 4) (gated xv rwv idxv)) (acc7 E c (gated xv rwv idxv) (k0_pay5 (k0_pay1 xv) swv))) $$ [HSt Mz Ho]
  · isplitr; · iexact HR
    isplitl [HSt]; · iexact HSt
    isplitl [Mz]; · iexact Mz
    iexact Ho
  iintro ⟨HSt, Mz, Ho, Lz, Lcw00, Lcw01⟩
  try dsimp only
  rw [wp_bind]
  iapply (part17 E K c) $$ [HSt]
  · isplitr; · iexact HR
    iexact HSt
  iintro ⟨HSt, Lcw10, Lcw11, Lcw20⟩
  try dsimp only
  rw [wp_bind]
  iapply (part18 E K c) $$ [HSt]
  · isplitr; · iexact HR
    iexact HSt
  iintro ⟨HSt, Lcw21, Lccw00, Lccw01⟩
  try dsimp only
  rw [wp_bind]
  iapply (part19 E K c) $$ [HSt]
  · isplitr; · iexact HR
    iexact HSt
  iintro ⟨HSt, Lccw10, Lccw11, Lccw20⟩
  try dsimp only
  iapply (wp_leave E K c (.ccw 2 1) (dst := ccwSlot 2 1) rfl (credit_ccw 2 2 1)) $$ [HSt]
  · isplitr; · iexact HR
    iexact HSt
  iintro ⟨HSt, Lccw21⟩
  rw [wp_ret]
  imodintro
  iapply Hk
  unfold St
  icases HSt with ⟨HO, -, -, -, -, HZ⟩
  isplitl [HO]; · iexact HO
  isplitl [HZ]; · iexact HZ
  isplitl [Hx]; · iexact Hx
  isplitl [Hrw]; · iexact Hrw
  isplitl [Hidx]; · iexact Hidx
  isplitl [Hew]; · iexact Hew
  isplitl [Hsw]; · iexact Hsw
  isplitl [Ho]; · iexact Ho
  isplitl [Lz Hb Lcw00 Lcw01 Lccw00 Lccw01]
  · iapply (some_intro (E c))
    iapply (pair_join E c)
    isplitl [Lz]; · iexact Lz
    isplitl [Hb]; · iexact Hb
    isplitl [Lcw00]; · iexact Lcw00
    isplitl [Lcw01]; · iexact Lcw01
    isplitl [Lccw00] <;> iassumption
  isplitl [Hg]
  · iapply (some_intro (gated xv rwv idxv)); iexact Hg
  isplitl [R2 Lcw10 Kcw10 Lcw11 Kcw11 Lcw20 Kcw20 Lcw21 Kcw21 Mcw20 Mcw21]
  · iapply (ring2_leave E c)
    isplitl [R2]; · iexact R2
    isplitl [Lcw10]; · iexact Lcw10
    isplitl [Kcw10]; · iexact Kcw10
    isplitl [Lcw11]; · iexact Lcw11
    isplitl [Kcw11]; · iexact Kcw11
    isplitl [Lcw20]; · iexact Lcw20
    isplitl [Kcw20]; · iexact Kcw20
    isplitl [Lcw21]; · iexact Lcw21
    isplitl [Kcw21]; · iexact Kcw21
    isplitl [Mcw20] <;> iassumption
  isplitl [R3 Lccw10 Kccw10 Lccw11 Kccw11 Lccw20 Kccw20 Lccw21 Kccw21 Mccw20 Mccw21]
  · iapply (ring3_leave E c)
    isplitl [R3]; · iexact R3
    isplitl [Lccw10]; · iexact Lccw10
    isplitl [Kccw10]; · iexact Kccw10
    isplitl [Lccw11]; · iexact Lccw11
    isplitl [Kccw11]; · iexact Kccw11
    isplitl [Lccw20]; · iexact Lccw20
    isplitl [Kccw20]; · iexact Kccw20
    isplitl [Lccw21]; · iexact Lccw21
    isplitl [Kccw21]; · iexact Kccw21
    isplitl [Mccw20] <;> iassumption
  iapply (landed_z_some E c)
  iexact Mz

end Cert.KernelIdeal.Ring

end
-- ==== Proof.Ghost.lean ====
/-
  The start of the protocol: the launch's tokens and positions, dealt to the devices that use them, the invariants of all cells,
  and the credit of what the partners owe.
-/
module

public import proofs.«01_k».proof.Proof.Body
public import proofs.«01_k».proof.Proof.Gen.KernelIdeal.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (E : Dev nD → Pair F)

/-! ## The cells in lists -/

/-- The cells of a device. -/
abbrev allCi : List Ci := none :: (allCp.map (fun j => Option.some (true, j)) ++ allCp.map (fun j => Option.some (false, j)))

theorem allCi_nodup : allCi.Nodup := by decide
theorem allCi_univ : allCi.toFinset = (Finset.univ : Finset Ci) := by decide
theorem allCp_univ : allCp.toFinset = (Finset.univ : Finset Cp) := by decide

/-- The cells of a device, conjoined: the barrier cell, those that count its copies out, and those that count copies in. -/
theorem bigSep_Ci (Φ : Ci → sProp 𝕄) : bigSep Finset.univ Φ
    ⊣⊢ iprop(Φ none ∗ sepL (fun j => Φ (Option.some (true, j))) allCp ∗ sepL (fun j => Φ (Option.some (false, j))) allCp) := by
  rw [← allCi_univ, bigSep_eq_sepL Φ allCi allCi_nodup, sepL_cons]
  have h := sepL_append Φ (allCp.map (fun j => Option.some (true, j))) (allCp.map (fun j => Option.some (false, j)))
  rw [sepL_map, sepL_map] at h
  exact ⟨sep_mono_right h.1, sep_mono_right h.2⟩

theorem bigSep_Cp (Φ : Cp → sProp 𝕄) : bigSep Finset.univ Φ = sepL Φ allCp := by
  rw [← allCp_univ, bigSep_eq_sepL Φ allCp allCp_nodup]

theorem bigSep_three (Φ : Fin 3 → sProp 𝕄) : bigSep Finset.univ Φ = iprop(Φ 0 ∗ Φ 1 ∗ Φ 2) := bigSep_univ_eq_bigSepL [0, 1, 2] (by decide) (by decide) Φ

theorem csem_inj : Function.Injective csem := by
  intro a b h
  rcases a with _ | ⟨_ | _, j⟩ <;> rcases b with _ | ⟨_ | _, j'⟩
  · rfl
  · exact absurd h (by unfold csem; exact fun h => nomatch h)
  · exact absurd h (by unfold csem; exact fun h => nomatch h)
  · exact absurd h (by unfold csem; exact fun h => nomatch h)
  · have h' : recvD j = recvD j' := by unfold csem at h; exact SemLoc.dma.inj h
    have := (role_recvD j).symm.trans ((congrArg role h').trans (role_recvD j'))
    rw [Option.some.inj this]
  · have h' : recvD j = sendD j' := by unfold csem at h; exact SemLoc.dma.inj h
    have := (role_recvD j).symm.trans ((congrArg role h').trans (role_sendD j'))
    exact absurd (congrArg Prod.fst (Option.some.inj this)) (by simp)
  · exact absurd h (by unfold csem; exact fun h => nomatch h)
  · have h' : sendD j = recvD j' := by unfold csem at h; exact SemLoc.dma.inj h
    have := (role_sendD j).symm.trans ((congrArg role h').trans (role_recvD j'))
    exact absurd (congrArg Prod.fst (Option.some.inj this)) (by simp)
  · have h' : sendD j = sendD j' := by unfold csem at h; exact SemLoc.dma.inj h
    have := (role_sendD j).symm.trans ((congrArg role h').trans (role_sendD j'))
    rw [Option.some.inj this]

theorem kcell_injective : Function.Injective (kcell : Dev nD × Ci → GSem nD τ sig) := by
  rintro ⟨c, i⟩ ⟨c', i'⟩ h
  have h1 : c = c' := by have := congrArg (fun g : GSem nD τ sig => g.1.1) h; exact this
  have h2 : i = i' := csem_inj (congrArg Prod.snd h)
  rw [h1, h2]

def ringCells : Finset (GSem nD τ sig) := Finset.univ.map ⟨kcell, kcell_injective⟩

/-- A token for each duty a cell might have in its round; those of no duty are left unused. -/
abbrev tokOf (x : (Dev nD × Ci) × Fin 3) : GSem nD τ sig × ℕ × Fin 3 := (kcell x.1, 0, x.2)

theorem tokOf_injective : Function.Injective tokOf := fun x y h => by
  have h1 := kcell_injective (congrArg Prod.fst h)
  have h2 : x.2 = y.2 := congrArg (fun z : GSem nD τ sig × ℕ × Fin 3 => z.2.2) h
  exact Prod.ext h1 h2

def ringToks : Finset (GSem nD τ sig × ℕ × Fin 3) := Finset.univ.map ⟨tokOf, tokOf_injective⟩

/-! ## The semaphores -/

/-- The kernel's own semaphores, those that no copy uses included. -/
abbrev osem : Fin 30 → SemLoc sig := fun i => .dma ⟨6 + i.val, by have := i.isLt; show 6 + i.val < 36; omega⟩

theorem ownSemFacts : Pipeline.OwnSemFacts cfg0.spec osem := by decide

/-- The DMA semaphores that no copy uses. -/
abbrev unused : List (SemLoc sig) := [.dma 12, .dma 13, .dma 26, .dma 27]

theorem unscopedSems0_eq (c : Dev nD) : (unscopedSems0 c : sProp 𝕄) = zero c bar := by
  unfold unscopedSems0; rw [bigSep_eq_bigSepL_of_eq [bar] (by decide) (by decide)]; rfl

theorem ownSems0_eq (c : Dev nD) : (Pipeline.ownSems0 (Ix := Unit) (Name := ℕ) (U := UU) (Lvl := ℕ) (Val := Elt F) (τ := τ) osem c : sProp 𝕄)
    = sepL (zero c) ((List.finRange 30).map osem) := by
  rw [sepL_map]
  unfold Pipeline.ownSems0
  rw [show (Finset.univ : Finset (Fin 30)) = (List.finRange 30).toFinset by decide, bigSep_eq_sepL _ _ (List.nodup_finRange 30)]
  rfl

theorem sems_perm_closed : (bar :: (List.finRange 30).map osem).Perm (closed ++ unused) := by decide

theorem sems_perm_cells : closed.Perm (allCi.map csem) := by decide

/-- All semaphores at zero, as the launch and the exit have them, and as the protocol has them. -/
theorem sems_in (c : Dev nD) :
    iprop(Pipeline.ownSems0 (Ix := Unit) (Name := ℕ) (U := UU) (Lvl := ℕ) (Val := Elt F) (τ := τ) osem c ∗ unscopedSems0 c)
      ⊢ iprop(sepL (zero (F := F) c) closed ∗ sepL (zero c) unused) := by
  rw [ownSems0_eq, unscopedSems0_eq]
  refine BIBase.Entails.trans ?_ (sepL_append _ _ _).1
  refine BIBase.Entails.trans ?_ (sepL_perm _ sems_perm_closed)
  rw [sepL_cons]
  iintro ⟨H1, H2⟩
  isplitl [H2] <;> iassumption

theorem sems_out (c : Dev nD) :
    iprop(sepL (zero (F := F) c) closed ∗ sepL (zero c) unused)
      ⊢ iprop(unscopedSems0 c ∗ Pipeline.ownSems0 (Ix := Unit) (Name := ℕ) (U := UU) (Lvl := ℕ) (Val := Elt F) (τ := τ) osem c) := by
  rw [ownSems0_eq, unscopedSems0_eq]
  exact (sepL_append _ _ _).2.trans (sepL_perm _ sems_perm_closed.symm)

theorem closed_cells (c : Dev nD) : sepL (zero (F := F) c) closed ⊢ bigSep Finset.univ fun k : Ci => (semVal (kcell (c, k)) 0 : sProp 𝕄) := by
  refine (sepL_perm _ sems_perm_cells).trans ?_
  rw [sepL_map, ← allCi_univ, bigSep_eq_sepL _ allCi allCi_nodup]
  exact BI.Entails.refl _

/-! ## The ghost state -/

/-- What the launch element deals device `c`. -/
def G (c : Dev nD) : sProp 𝕄 :=
  iprop((bigSep Finset.univ fun k : Ci => roundState ER (rd E) (kcell (c, k)) 0)
    ∗ (bigSep Finset.univ fun k : Ci => iprop(atPos ER (kcell (c, k)) 0 ∅ 0 ∗ reached ER (kcell (c, k)) 0))
    ∗ bigSep Finset.univ fun k : Ci => bigSep Finset.univ fun d : Fin 3 => dutyTok ER (kcell (c, k)) 0 d)

/-- What stays with device `c`: its positions, the tokens of the duties it pays, and the unused semaphores. -/
def linear (c : Dev nD) : sProp 𝕄 :=
  iprop((dutyTok ER (barCell (go 0 c)) 0 (opp 0) ∗ dutyTok ER (barCell (go 1 c)) 0 (opp 1) ∗ dutyTok ER (barCell (go 2 c)) 0 (opp 2))
    ∗ atPos ER (barCell c) 0 ∅ 0 ∗ sepL (ready (F := F) c) allCp ∗ sepL (fun j => atPos ER (recvCell c j) 0 ∅ 0) allCp ∗ sepL (zero (F := F) c) unused)

/-- What device `c` enters the protocol with. -/
def G' (c : Dev nD) : sProp 𝕄 := iprop(∃ K, recs E K ∗ linear c)

theorem fund_ring : BI.own (ER (initOf ringCells ringToks)) ⊢ (|==> bigSep Finset.univ (G E) : sProp 𝕄) := by
  have hX (Φ : GSem nD τ sig → sProp 𝕄) : bigSep ringCells Φ = bigSep Finset.univ fun c : Dev nD => bigSep Finset.univ fun k : Ci => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Ci => bigSep Finset.univ fun d : Fin 3 => dutyTok ER (kcell (c, k)) 0 d := by
    unfold ringToks; rw [bigSep_map, bigSep_univ_prod, bigSep_univ_prod]; rfl
  iintro HX
  imod (Rounds.fund ER (rd E) ringCells ringToks) $$ HX with ⟨Hst, Hr, Hat, Htok⟩
  imodintro
  ihave Hst' := (BIBase.Entails.of_eq (hX fun g => roundState ER (rd E) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat'] <;> iassumption
  iexact Htok'

/-- A device's cells, allocated. -/
theorem core_alloc (c : Dev nD) :
    iprop(Pipeline.ownSems0 (Ix := Unit) (Name := ℕ) (U := UU) (Lvl := ℕ) (Val := Elt F) (τ := τ) osem c ∗ unscopedSems0 c ∗ G E c)
      ⊢ |={Set.univ}=> iprop((bigSep Finset.univ fun k => iprop(∃ κ : ℕ, cellInv ER (rd E) κ (kcell (c, k))))
          ∗ (bigSep Finset.univ fun k => iprop(atPos ER (kcell (c, k)) 0 ∅ 0 ∗ reached ER (kcell (c, k)) 0))
          ∗ (bigSep Finset.univ fun k : Ci => bigSep Finset.univ fun d : Fin 3 => dutyTok ER (kcell (c, k)) 0 d) ∗ sepL (zero (F := F) c) unused) := by
  unfold G
  iintro ⟨Hos, Hus, Hst, Hat, Htok⟩
  ihave Hv := (sems_in (F := F) c) $$ [Hos Hus]
  · isplitl [Hos] <;> iassumption
  icases Hv with ⟨Hv, Hun⟩
  ihave Hv := (closed_cells (F := F) c) $$ Hv
  imod (show iprop((bigSep Finset.univ fun k : Ci => semVal (kcell (c, k)) 0) ∗ bigSep Finset.univ fun k : Ci => roundState ER (rd E) (kcell (c, k)) 0)
      ⊢ (|={Set.univ}=> bigSep Finset.univ fun k => iprop(∃ κ : ℕ, cellInv ER (rd E) κ (kcell (c, k))) : sProp 𝕄) from by
        rw [← bigSep_sep']
        exact (bigSep_mono fun k _ => (Rounds.body_intro ER (rd E) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A device and a direction, seen from the partner. -/
def partner : Dev nD × Fin 3 ≃ Dev nD × Fin 3 where
  toFun x := (go x.2 x.1, opp x.2)
  invFun x := (go x.2 x.1, opp x.2)
  left_inv x := Prod.ext (go_opp_go x.2 x.1) (opp_opp x.2)
  right_inv x := Prod.ext (go_opp_go x.2 x.1) (opp_opp x.2)

/-- A sender and a copy, seen from the receiver. -/
def receiver : Dev nD × Cp ≃ Dev nD × Cp where
  toFun x := (go (way x.2) x.1, x.2)
  invFun x := (go (opp (way x.2)) x.1, x.2)
  left_inv x := Prod.ext (go_opp_go (way x.2) x.1) rfl
  right_inv x := Prod.ext (go_go_opp (way x.2) x.1) rfl

/-- Of a device's tokens: those of its barrier cell, and one for each other cell. -/
theorem toks_pick (c : Dev nD) : (bigSep Finset.univ fun k : Ci => bigSep Finset.univ fun d : Fin 3 => (dutyTok ER (kcell (c, k)) 0 d : sProp 𝕄))
    ⊢ iprop((bigSep Finset.univ fun d : Fin 3 => dutyTok ER (barCell c) 0 d)
        ∗ (bigSep Finset.univ fun j : Cp => dutyTok ER (sendCell c j) 0 0) ∗ (bigSep Finset.univ fun j : Cp => dutyTok ER (recvCell c j) 0 0)) := by
  refine (bigSep_Ci _).1.trans ?_
  rw [bigSep_Cp, bigSep_Cp]
  exact sep_mono_right (BI.sep_mono (sepL_mono _ fun j _ => bigSep_elim (Finset.mem_univ (0 : Fin 3))) (sepL_mono _ fun j _ => bigSep_elim (Finset.mem_univ (0 : Fin 3))))

/-- The tokens dealt to those who pay. -/
theorem toks_around :
    (bigSep Finset.univ fun c : Dev nD => iprop((bigSep Finset.univ fun d : Fin 3 => dutyTok ER (barCell c) 0 d)
        ∗ (bigSep Finset.univ fun j : Cp => dutyTok ER (sendCell c j) 0 0) ∗ (bigSep Finset.univ fun j : Cp => dutyTok ER (recvCell c j) 0 0)) : sProp 𝕄)
      ⊢ bigSep Finset.univ fun c : Dev nD => iprop((bigSep Finset.univ fun d : Fin 3 => dutyTok ER (barCell (go d c)) 0 (opp d))
        ∗ (bigSep Finset.univ fun j : Cp => dutyTok ER (sendCell c j) 0 0) ∗ (bigSep Finset.univ fun j : Cp => dutyTok ER (recvCell (go (way j) c) j) 0 0)) := by
  simp only [bigSep_sep']
  rw [← bigSep_univ_prod (fun x : Dev nD × Fin 3 => (dutyTok ER (barCell x.1) 0 x.2 : sProp 𝕄)),
    ← bigSep_univ_prod (fun x : Dev nD × Cp => (dutyTok ER (recvCell x.1 x.2) 0 0 : sProp 𝕄)),
    bigSep_univ_equiv partner, bigSep_univ_equiv receiver, bigSep_univ_prod, bigSep_univ_prod]
  exact BI.Entails.refl _

theorem toks_deal : (bigSep Finset.univ fun c : Dev nD => bigSep Finset.univ fun k : Ci => bigSep Finset.univ fun d : Fin 3 => (dutyTok ER (kcell (c, k)) 0 d : sProp 𝕄))
      ⊢ bigSep Finset.univ fun c : Dev nD => iprop((bigSep Finset.univ fun d : Fin 3 => dutyTok ER (barCell (go d c)) 0 (opp d))
        ∗ (bigSep Finset.univ fun j : Cp => dutyTok ER (sendCell c j) 0 0) ∗ (bigSep Finset.univ fun j : Cp => dutyTok ER (recvCell (go (way j) c) j) 0 0)) :=
  (bigSep_mono fun c _ => toks_pick c).trans toks_around

theorem linear_intro (c : Dev nD) :
    iprop((bigSep Finset.univ fun k : Ci => atPos ER (kcell (c, k)) 0 ∅ 0)
        ∗ ((bigSep Finset.univ fun d : Fin 3 => dutyTok ER (barCell (go d c)) 0 (opp d))
        ∗ (bigSep Finset.univ fun j : Cp => dutyTok ER (sendCell c j) 0 0) ∗ (bigSep Finset.univ fun j : Cp => dutyTok ER (recvCell (go (way j) c) j) 0 0))
        ∗ sepL (zero (F := F) c) unused)
      ⊢ (linear (F := F) c : sProp 𝕄) := by
  iintro ⟨Hat, ⟨H1, H2, H3⟩, H4⟩
  ihave Hat := (bigSep_Ci _).1 $$ Hat
  icases Hat with ⟨Ha, Hs, Hr⟩
  unfold linear
  isplitl [H1]
  · iapply (BIBase.Entails.of_eq (bigSep_three (F := F) fun d => dutyTok ER (barCell (go d c)) 0 (opp d)))
    iexact H1
  isplitl [Ha]; · iexact Ha
  isplitl [Hs H2 H3]
  · iapply (show iprop((bigSep Finset.univ fun j : Cp => dutyTok ER (sendCell c j) 0 0) ∗ (bigSep Finset.univ fun j : Cp => dutyTok ER (recvCell (go (way j) c) j) 0 0)
        ∗ sepL (fun j => atPos ER (sendCell c j) 0 ∅ 0) allCp) ⊢ (sepL (ready (F := F) c) allCp : sProp 𝕄) from by
      rw [← bigSep_Cp, ← bigSep_Cp, ← bigSep_sep', ← bigSep_sep']
      exact BI.Entails.refl _)
    isplitl [H2]; · iexact H2
    isplitl [H3]; · iexact H3
    iexact Hs
  isplitl [Hr]; · iexact Hr
  iexact H4

theorem linear_all :
    iprop((bigSep Finset.univ fun c : Dev nD => bigSep Finset.univ fun k : Ci => atPos ER (kcell (c, k)) 0 ∅ 0)
        ∗ (bigSep Finset.univ fun c : Dev nD => iprop((bigSep Finset.univ fun d : Fin 3 => dutyTok ER (barCell (go d c)) 0 (opp d))
        ∗ (bigSep Finset.univ fun j : Cp => dutyTok ER (sendCell c j) 0 0) ∗ (bigSep Finset.univ fun j : Cp => dutyTok ER (recvCell (go (way j) c) j) 0 0)))
        ∗ bigSep Finset.univ fun c : Dev nD => sepL (zero (F := F) c) unused)
      ⊢ (bigSep Finset.univ (linear (F := F)) : sProp 𝕄) := by
  rw [← bigSep_sep', ← bigSep_sep']
  exact bigSep_mono fun c _ => linear_intro c

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd E) κ (kcell (c, k))))
          ∗ (bigSep Finset.univ fun k => iprop(atPos ER (kcell (c, k)) 0 ∅ 0 ∗ reached ER (kcell (c, k)) 0))
          ∗ (bigSep Finset.univ fun k : Ci => bigSep Finset.univ fun d : Fin 3 => dutyTok ER (kcell (c, k)) 0 d) ∗ sepL (zero (F := F) c) unused) : sProp 𝕄)
      ⊢ bigSep Finset.univ (G' E) := by
  rw [bigSep_sep', bigSep_sep', bigSep_sep', ← bigSep_univ_prod (fun ck : Dev nD × Ci => iprop(∃ κ : ℕ, cellInv ER (rd E) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, #HR⟩, Htok, Hun⟩
  ihave HK := (BI.bigSep_exists_pi Finset.univ (fun (ck : Dev nD × Ci) (κ : ℕ) => (cellInv ER (rd E) κ (kcell ck) : sProp 𝕄))) $$ HI
  icases HK with ⟨%K, #HI⟩
  ihave Htok := (toks_deal (F := F)) $$ Htok
  iapply (with_persistent (R := recs E K) (Φ := linear (F := F)) fun c _ => show iprop(recs E K ∗ linear c) ⊢ G' E c from by
    unfold G'; iintro H; iexists K; iexact H)
  isplitr
  · unfold recs; isplitl; · iexact HI
    iexact HR
  · iapply (linear_all (F := F))
    isplitl [Hat]; · iexact Hat
    isplitl [Htok] <;> iassumption

/-- All cells of all devices at once. -/
theorem glob : (bigSep Finset.univ fun c => iprop(Pipeline.ownSems0 (Ix := Unit) (Name := ℕ) (U := UU) (Lvl := ℕ) (Val := Elt F) (τ := τ) osem c ∗ unscopedSems0 c ∗ G E c) : sProp 𝕄)
    ⊢ |={Set.univ}=> bigSep Finset.univ (G' E) :=
  ((bigSep_mono fun c _ => core_alloc E c).trans (bigSep_fupd _ _)).trans (BI.fupd_mono (regroup E))

/-! ## The credit -/

/-- What device `c` is owed by its partners for the copies in a list. -/
def dueC (c : Dev nD) : List Cp → CellTallies nD τ sig Unit
  | [] => 0
  | j :: l => dueC c l + tallyAt (recvCell c j) () (amt j)

theorem sum_owedC : ∀ l : List Cp, (∑ d, owedC d l) = ∑ d, dueC d l
  | [] => rfl
  | j :: l => by
    simp only [owedC, dueC, Finset.sum_add_distrib]
    rw [sum_owedC l]
    exact congrArg _ ((goE (way j)).sum_comp fun c => tallyAt (recvCell c j) () (amt j))

/-- All that device `c` is owed. -/
def T₀ (c : Dev nD) : CellTallies nD τ sig Unit := dueC c allCp + tallyAt (barCell c) () 1 + tallyAt (barCell c) () 1 + tallyAt (barCell c) () 1

theorem sum_O₀ : (∑ d, O₀ d) = ∑ d, T₀ d := by
  simp only [O₀, T₀, Finset.sum_add_distrib]
  rw [sum_owedC]
  exact congrArg₂ _ (congrArg₂ _ (congrArg _ ((goE 2).sum_comp fun c => tallyAt (barCell c) () 1)) ((goE 0).sum_comp fun c => tallyAt (barCell c) () 1))
    ((goE 1).sum_comp fun c => tallyAt (barCell c) () 1)

theorem dueC_at {c : Dev nD} {g : GSem nD τ sig} : ∀ {l : List Cp}, dueC c l g ≠ 0 → g.1 = (c : Thread nD τ)
  | [], h => absurd rfl h
  | j :: l, h => by
    unfold dueC at h
    rw [Pi.add_apply] at h
    by_cases hg : g = recvCell c j
    · rw [hg]
    · rw [tallyAt_ne_cell hg, add_zero] at h
      exact dueC_at h

theorem T₀_at (c : Dev nD) (g : GSem nD τ sig) (h : T₀ c g ≠ 0) : g.1 = (c : Thread nD τ) := by
  unfold T₀ at h
  rw [Pi.add_apply, Pi.add_apply, Pi.add_apply] at h
  by_cases hg : g = barCell c
  · rw [hg]
  · rw [tallyAt_ne_cell hg, add_zero, add_zero, add_zero] at h
    exact dueC_at h

theorem cred_dueC (c : Dev nD) : ∀ l : List Cp, (cred (dueC c l) : sProp 𝕄) ⊢ sepL (fun j => cred (tallyAt (recvCell c j) () (amt j))) l
  | [] => by unfold dueC sepL; rw [cred_zero]
  | j :: l => by
    rw [sepL_cons]
    refine (cred_add _ _).1.trans ?_
    iintro ⟨H1, H2⟩
    isplitl [H2]; · iexact H2
    iapply (cred_dueC c l); iexact H1

theorem creds (c : Dev nD) : (Pipeline.launchCred O₀ c : sProp 𝕄)
    ⊢ iprop(cred (tallyAt (barCell c) () 3) ∗ sepL (fun j => cred (tallyAt (recvCell c j) () (amt j))) allCp) := by
  rw [Pipeline.launchCred_of_sum O₀ T₀ sum_O₀ T₀_at c]
  unfold T₀
  rw [add_assoc, add_assoc, tallyAt_add, tallyAt_add]
  refine (cred_add _ _).1.trans ?_
  iintro ⟨H1, H2⟩
  isplitl [H2]; · iexact H2
  iapply (cred_dueC c allCp); iexact H1

/-- A device's positions and credits, as what it will wait for. -/
theorem awaits (c : Dev nD) : iprop(sepL (fun j => atPos ER (recvCell c j) 0 ∅ 0) allCp ∗ sepL (fun j => cred (tallyAt (recvCell c j) () (amt j))) allCp)
    ⊢ (sepL (await (F := F) c) arrivals : sProp 𝕄) := by
  refine BIBase.Entails.trans ?_ (sepL_perm _ (show allCp.Perm arrivals by decide))
  rw [← bigSep_Cp, ← bigSep_Cp, ← bigSep_Cp, ← bigSep_sep']
  exact BI.Entails.refl _

end Cert.KernelIdeal.Ring

end
-- ==== Proof.Launch.lean ====
/-
  The launch: what each device's staging buffers hold, the body's obligation from the run of the body, and the run of the
  program on the eight devices: each result array at the computed contents, the arguments as they were, and every counter at zero.
-/
module

public import proofs.«01_k».proof.Proof.Ghost
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- What device c's argument 0 holds, as the body finds it staged. -/
def xIn (c : Dev nD) : (cc0_stg0_0 : Ref sig .tc).ty.Contents (Elt F) :=
  (win0_0.blk (0 : Fin 1)).view.read (Elt F) ((s₀ m ρ).mem ((c : Thread nD τ).loc main_arg0))

/-- What device c's argument 1 holds, as the body finds it staged. -/
def rwIn (c : Dev nD) : (cc0_stg1_0 : Ref sig .tc).ty.Contents (Elt F) :=
  (win0_1.blk (0 : Fin 1)).view.read (Elt F) ((s₀ m ρ).mem ((c : Thread nD τ).loc main_arg1))

/-- What device c's argument 2 holds, as the body finds it staged. -/
def idxIn (c : Dev nD) : (cc0_stg2_0 : Ref sig .tc).ty.Contents (Elt F) :=
  (win0_2.blk (0 : Fin 1)).view.read (Elt F) ((s₀ m ρ).mem ((c : Thread nD τ).loc main_arg2))

/-- What device c's argument 3 holds, as the body finds it staged. -/
def ewIn (c : Dev nD) : (cc0_stg3_0 : Ref sig .tc).ty.Contents (Elt F) :=
  (win0_3.blk (0 : Fin 1)).view.read (Elt F) ((s₀ m ρ).mem ((c : Thread nD τ).loc main_arg3))

/-- What device c's argument 4 holds, as the body finds it staged. -/
def swIn (c : Dev nD) : (cc0_stg4_0 : Ref sig .tc).ty.Contents (Elt F) :=
  (win0_4.blk (0 : Fin 1)).view.read (Elt F) ((s₀ m ρ).mem ((c : Thread nD τ).loc main_arg4))

/-- The pair of expert matrices that device c holds, narrowed. -/
def pairOf (c : Dev nD) : Pair F := k0_pay2 (ewIn m ρ c)

/-- What device c's result array gets. -/
def outAt (c : Dev nD) : (cc0_stg5_0 : Ref sig .tc).ty.Contents (Elt F) :=
  result (pairOf m ρ) c (xIn m ρ c) (rwIn m ρ c) (idxIn m ρ c) (swIn m ρ c)

/-! ## The pipeline's data -/

/-- What device c starts the protocol with. -/
def start (c : Dev nD) : sProp 𝕄 :=
  iprop(G' (pairOf m ρ) c ∗ (cred (tallyAt (barCell c) () 3) ∗ sepL (fun j => cred (tallyAt (recvCell c j) () (amt j))) allCp) ∗ levAts L lv)

/-- The five scratch buffers, whatever they hold. -/
def scratch (c : Dev nD) : sProp 𝕄 :=
  iprop(some (F := F) ((c : Thread nD τ).loc cc0_scratch0) Finset.univ ∗ some (F := F) ((c : Thread nD τ).loc cc0_scratch1) Finset.univ
    ∗ some (F := F) ((c : Thread nD τ).loc cc0_scratch2) Finset.univ ∗ some (F := F) ((c : Thread nD τ).loc cc0_scratch3) Finset.univ
    ∗ some (F := F) ((c : Thread nD τ).loc cc0_scratch4) Finset.univ)

theorem scratch_eq (c : Dev nD) : (Pipeline.scopedRest (Ix := Unit) (Name := ℕ) (U := UU) (Lvl := ℕ) (Val := Elt F) spec0 c : sProp 𝕄) = scratch c := by
  rw [scopedRest0_eq]; unfold scratch some; rfl

def Φ₀ (c : Dev nD) : sProp 𝕄 := iprop(start m ρ c ∗ scratch (F := F) c)

def Φ₁ (c : Dev nD) : sProp 𝕄 := iprop((sepL (zero (F := F) c) closed ∗ sepL (zero (F := F) c) unused) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => rwIn m ρ c
    | ⟨2, _⟩ => idxIn m ρ c
    | ⟨3, _⟩ => ewIn m ρ c
    | ⟨4, _⟩ => swIn m ρ c
    | ⟨5, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A staging buffer of device c at contents X. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_in (c : Dev nD) (b : Ref sig .tc) (X : b.ty.Contents (Elt F)) : (((c : Thread nD τ).loc b) ↦{fullShare} X : sProp 𝕄) ⊢ stg c b X := by
  unfold stg; iintro H; iexists X; isplitr; · (ipureintro; rfl)
  iexact H

theorem stg_out (c : Dev nD) (b : Ref sig .tc) (X : b.ty.Contents (Elt F)) : (stg c b X : sProp 𝕄) ⊢ (((c : Thread nD τ).loc b) ↦{fullShare} X) := by
  unfold stg; iintro ⟨%f, %hf, H⟩; subst hf; iexact H

theorem stg_some (c : Dev nD) (b : Ref sig .tc) (X : b.ty.Contents (Elt F)) : (stg c b X : sProp 𝕄) ⊢ some ((c : Thread nD τ).loc b) Finset.univ := by
  unfold stg some; iintro ⟨%f, -, H⟩; iexists f; iexact H

theorem fetch_in (w : Fin 6) (hw : w.val < 5) : (cfg0.win w).fetch t0_0 = true := by
  fin_cases w <;> first | rfl | exact absurd hw (by decide)

theorem before_0 (c : Dev nD) (d) : (dats m ρ 0 c).before (0 : Fin 6) t0_0 d = xIn m ρ c := by
  unfold Dat.before; rw [if_pos (fetch_in (0 : Fin 6) (by decide))]; rfl

theorem before_1 (c : Dev nD) (d) : (dats m ρ 0 c).before (1 : Fin 6) t0_0 d = rwIn m ρ c := by
  unfold Dat.before; rw [if_pos (fetch_in (1 : Fin 6) (by decide))]; rfl

theorem before_2 (c : Dev nD) (d) : (dats m ρ 0 c).before (2 : Fin 6) t0_0 d = idxIn m ρ c := by
  unfold Dat.before; rw [if_pos (fetch_in (2 : Fin 6) (by decide))]; rfl

theorem before_3 (c : Dev nD) (d) : (dats m ρ 0 c).before (3 : Fin 6) t0_0 d = ewIn m ρ c := by
  unfold Dat.before; rw [if_pos (fetch_in (3 : Fin 6) (by decide))]; rfl

theorem before_4 (c : Dev nD) (d) : (dats m ρ 0 c).before (4 : Fin 6) t0_0 d = swIn m ρ c := by
  unfold Dat.before; rw [if_pos (fetch_in (4 : Fin 6) (by decide))]; rfl

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 4000 in
def bodyPost (c : Dev nD) : sProp 𝕄 :=
  iprop(Φ₁ (F := F) c ∗ (dats m ρ 0 c).owesAt () t0_0.succ
    ∗ stg c cc0_stg0_0 (xIn m ρ c) ∗ stg c cc0_stg1_0 (rwIn m ρ c) ∗ stg c cc0_stg2_0 (idxIn m ρ c) ∗ stg c cc0_stg3_0 (ewIn m ρ c) ∗ stg c cc0_stg4_0 (swIn m ρ c) ∗ stg c cc0_stg5_0 (outAt m ρ c))

set_option maxRecDepth 4000 in
theorem body_sound (c : Dev nD) : bodyPre m ρ c ⊢ wp frame (wpE (defs₀ (F := F)) 𝒱₀ (c : Thread nD τ) none) Set.univ (cc0_body (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) (fun _ => bodyPost m ρ c) := by
  unfold bodyPre Φ₀ start scratch G' linear Dat.owesAt Pipeline.owesWithin
  rw [show (dats m ρ 0 c).owed t0_0.castSucc = O₀ c from rfl]
  iintro ⟨⟨⟨⟨%K, #HR, ⟨B0, B1, B2⟩, Hat, Hready, Hrat, Hun⟩, ⟨Hbc, Hrc⟩, Hlev⟩, S0, S1, S2, S3, S4⟩, ⟨%W, -, HO⟩, ⟨%d0, H0⟩, ⟨%d1, H1⟩, ⟨%d2, H2⟩, ⟨%d3, H3⟩, ⟨%d4, H4⟩, ⟨%d5, H5⟩⟩
  ihave H0 := (stg_out c cc0_stg0_0 _) $$ H0
  rw [before_0]
  ihave H1 := (stg_out c cc0_stg1_0 _) $$ H1
  rw [before_1]
  ihave H2 := (stg_out c cc0_stg2_0 _) $$ H2
  rw [before_2]
  ihave H3 := (stg_out c cc0_stg3_0 _) $$ H3
  rw [before_3]
  ihave H4 := (stg_out c cc0_stg4_0 _) $$ H4
  rw [before_4]
  ihave H5 := (stg_some c cc0_stg5_0 _) $$ H5
  iapply (body_run (pairOf m ρ) K c W (xIn m ρ c) (rwIn m ρ c) (idxIn m ρ c) (ewIn m ρ c) (swIn m ρ c) rfl) $$ [HO B0 B1 B2 Hbc Hat Hready Hrat Hrc Hlev H0 H1 H2 H3 H4 H5 S0 S1 S2 S3 S4]
  · isplitr; · iexact HR
    isplitl [Hlev]; · iexact Hlev
    isplitl [HO]; · iexact HO
    isplitl [B1]; · iexact B1
    isplitl [B0]; · iexact B0
    isplitl [B2]; · iexact B2
    isplitl [Hbc]; · iexact Hbc
    isplitl [Hat]; · iexact Hat
    isplitl [Hready]; · iexact Hready
    isplitl [Hrat Hrc]
    · iapply (awaits (F := F) c)
      isplitl [Hrat] <;> iassumption
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3] <;> iassumption
  iintro ⟨⟨%W', HO⟩, HZ, H0, H1, H2, H3, H4, H5, S0, S1, S2, S3, S4⟩
  unfold bodyPost Φ₁ scratch Dat.owesAt Pipeline.owesWithin
  rw [show (dats m ρ 0 c).owed t0_0.succ = 0 from rfl]
  isplitl [HZ Hun S0 S1 S2 S3 S4]
  · isplitl [HZ Hun]
    · isplitl [HZ] <;> iassumption
    isplitl [S0]; · iexact S0
    isplitl [S1]; · iexact S1
    isplitl [S2]; · iexact S2
    isplitl [S3] <;> iassumption
  isplitl [HO]
  · iexists W'
    isplitr; · ipureintro; exact fun _ _ => Or.inl trivial
    iexact HO
  isplitl [H0]; · iapply (stg_in c cc0_stg0_0 (xIn m ρ c)); iexact H0
  isplitl [H1]; · iapply (stg_in c cc0_stg1_0 (rwIn m ρ c)); iexact H1
  isplitl [H2]; · iapply (stg_in c cc0_stg2_0 (idxIn m ρ c)); iexact H2
  isplitl [H3]; · iapply (stg_in c cc0_stg3_0 (ewIn m ρ c)); iexact H3
  isplitl [H4]; · iapply (stg_in c cc0_stg4_0 (swIn m ρ c)); iexact H4
  iapply (stg_in c cc0_stg5_0 (outAt m ρ c)); unfold outAt; iexact H5

theorem after_0 (c : Dev nD) : (dats m ρ 0 c).after (0 : Fin 6) t0_0 = xIn m ρ c := rfl

theorem after_1 (c : Dev nD) : (dats m ρ 0 c).after (1 : Fin 6) t0_0 = rwIn m ρ c := rfl

theorem after_2 (c : Dev nD) : (dats m ρ 0 c).after (2 : Fin 6) t0_0 = idxIn m ρ c := rfl

theorem after_3 (c : Dev nD) : (dats m ρ 0 c).after (3 : Fin 6) t0_0 = ewIn m ρ c := rfl

theorem after_4 (c : Dev nD) : (dats m ρ 0 c).after (4 : Fin 6) t0_0 = swIn m ρ c := rfl

theorem after_5 (c : Dev nD) : (dats m ρ 0 c).after (5 : Fin 6) t0_0 = outAt m ρ c := rfl

theorem phi_after (c : Dev nD) : (dats m ρ 0 c).Φ t0_0.succ = Φ₁ (F := F) c := rfl

set_option maxRecDepth 4000 in
theorem body_call : (defs₀ (F := F) Proc.tc 0 (t0_0, cfg0.slots t0_0)) = (cc0_body (F := F) xM (Memref.isWhole_whole _) rwM (Memref.isWhole_whole _) idxM (Memref.isWhole_whole _) ewM (Memref.isWhole_whole _) swM (Memref.isWhole_whole _) outM (Memref.isWhole_whole _) ewbM (Memref.isWhole_whole _) xgM (Memref.isWhole_whole _) cwM (Memref.isWhole_whole _) ccwM (Memref.isWhole_whole _) zM (Memref.isWhole_whole _) cc0_scratch5 cc0_scratch6 cc0_scratch7 cc0_scratch8 cc0_scratch9 cc0_scratch10) := rfl

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine BIBase.Entails.trans (Q := bodyPre m ρ c) ?_ (BIBase.Entails.trans (body_sound m ρ c) ?_)
  · unfold bodyPre; exact BI.Entails.refl _
  · rw [body_call]
    unfold bodyPost stg
    rw [after_0, after_1, after_2, after_3, after_4, after_5, phi_after]

/-! ## The run -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (pairOf m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq]
  unfold Φ₁
  iintro ⟨Hz, Hr⟩
  ihave Hz := (sems_out (F := F) c) $$ Hz
  icases Hz with ⟨H1, H2⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N

/-- Every array of every device holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution on the eight devices ends, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (pairOf m ρ)) (G' := G' (pairOf m ρ)) (u₀ := u₀)
    (hu₀ := by
      unfold u₀
      iintro Hu
      ihave H := (ownU_pair _ _) $$ Hu
      icases H with ⟨HP, HX⟩
      imod (fund_ring (pairOf m ρ)) $$ HX with HG
      imodintro
      isplitl [HP] <;> iassumption)
    (hglob := glob (pairOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Argument 0 holds after the run what it held. -/
theorem final_0 (c : Dev nD) : finalA m ρ c (0 : Fin 6) = m ((c : Thread nD τ).loc main_arg0) :=
  (dats (F := F) m ρ 0 c).arrAt_in (0 : Fin 6) rfl _

/-- Argument 1 holds after the run what it held. -/
theorem final_1 (c : Dev nD) : finalA m ρ c (1 : Fin 6) = m ((c : Thread nD τ).loc main_arg1) :=
  (dats (F := F) m ρ 0 c).arrAt_in (1 : Fin 6) rfl _

/-- Argument 2 holds after the run what it held. -/
theorem final_2 (c : Dev nD) : finalA m ρ c (2 : Fin 6) = m ((c : Thread nD τ).loc main_arg2) :=
  (dats (F := F) m ρ 0 c).arrAt_in (2 : Fin 6) rfl _

/-- Argument 3 holds after the run what it held. -/
theorem final_3 (c : Dev nD) : finalA m ρ c (3 : Fin 6) = m ((c : Thread nD τ).loc main_arg3) :=
  (dats (F := F) m ρ 0 c).arrAt_in (3 : Fin 6) rfl _

/-- Argument 4 holds after the run what it held. -/
theorem final_4 (c : Dev nD) : finalA m ρ c (4 : Fin 6) = m ((c : Thread nD τ).loc main_arg4) :=
  (dats (F := F) m ρ 0 c).arrAt_in (4 : Fin 6) rfl _

/-- The result array holds what the body left in its staging buffer. -/
theorem final_out (c : Dev nD) : (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Cert.KernelIdeal.Ring

end
-- ==== Proof.Frames.lean ====
/-
  The frames: each program ends, leaves its arguments as they were and every counter at zero. The kernel and its idealization are the
  same text, so one run serves both.
-/
module

public import proofs.«01_k».proof.Defs
public import proofs.«01_k».proof.Proof.Launch
public import proofs.«01_k».proof.Proof.Finite
public import proofs.«01_k».proof.Proof.Gen.Kernel
public import proofs.«01_k».proof.Proof.Gen.ReferenceIdeal
public import proofs.«01_k».proof.Proof.Gen.ReferenceIdeal.Run

@[expose] public section

noncomputable section

namespace Cert.Frames

open Idealize.ShloMosaic Idealize.ShloMosaic.TcCoe Idealize.SL.Sem
open Cert.KernelIdeal.Ring

/-- For any float values: the kernel ends, its arguments as they were and every counter at zero. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c (0 : Fin 6)).trans (final_0 m ρ c), (h.1 c (1 : Fin 6)).trans (final_1 m ρ c),
    (h.1 c (2 : Fin 6)).trans (final_2 m ρ c), (h.1 c (3 : Fin 6)).trans (final_3 m ρ c), (h.1 c (4 : Fin 6)).trans (final_4 m ρ c)⟩, h.2⟩)
    (run_main m ρ)

/-- The idealized kernel's frame. -/
theorem frame_ideal : Cert.quiescent_KernelIdeal := fun m ρ _ => kept m ρ

/-- The two body tables are the same. -/
theorem tables_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [tables_eq]
  rfl

/-- The kernel's frame, from the same run at the machine's floats. -/
theorem frame_kernel : Cert.quiescent_Kernel := fun m ρ _ => by
  rw [defs_eq]
  exact kept (F := Bits) m ρ

/-- The reference's frame: it declares no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- The idealized kernel's frame from the memories the value claim speaks of: a case of its frame from any memory. -/
theorem frame_ideal_finite : Cert.quiescent_KernelIdeal_pre_finite_routing_KernelIdeal (hPre_finite_routing_KernelIdeal := Cert.Finite.facts_kernel) :=
  fun m ρ _ => kept m ρ

/-- The reference's, likewise. -/
theorem frame_reference_finite : Cert.quiescent_ReferenceIdeal_pre_finite_routing_ReferenceIdeal (hPre_finite_routing_ReferenceIdeal := Cert.Finite.facts_reference) :=
  fun m ρ _ => frame_reference m ρ trivial

end Cert.Frames

end
-- ==== Proof.KernelValue.lean ====
/-
  What the kernel's output holds on one device, element by element: the row of the token, with the pairs of experts of all eight devices.
-/
module

public import proofs.«01_k».proof.Proof.Body
public import proofs.«01_k».proof.Proof.Routing
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.KernelValue

open Cert.KernelIdeal Cert.KernelIdeal.Gen Cert.KernelIdeal.Ring Cert.Routing
open Idealize.ShloMosaic Idealize.ShloMosaic.ValueIdx
open scoped BigOperators

/-! ## The matrix products -/

theorem dot_router (a : FVec Ideal S512x256 .f32) (b : FVec Ideal S256x16 .f32) (i : Fin 512) (e : Fin 16) :
    matmul dot_S512x256_S256x16_S512x16_1_0_0_1_n_n none a b (constant S512x16 .f32 0x00000000#32) (ix2 i e) = ∑ k : Fin 256, a (ix2 i k) * b (ix2 k e) := by
  rw [show (dot_S512x256_S256x16_S512x16_1_0_0_1_n_n : DotDims S512x256 S256x16 S512x16) = DotDims.plain 512 256 16 from rfl]
  refine (Ideal.matmul_plain_apply none a b _ i e).trans ?_
  rw [constant_apply, Ideal.ofBits_zero_f32, zero_add]

theorem dot_shared (a : FVec Ideal S512x256 .bf16) (b : FVec Ideal S256x512 .bf16) (i f : Fin 512) :
    matmul dot_S512x256_S256x512_S512x512_1_0_0_1_n_n none a b (constant S512x512 .f32 0x00000000#32) (ix2 i f) = ∑ k : Fin 256, a (ix2 i k) * b (ix2 k f) := by
  rw [show (dot_S512x256_S256x512_S512x512_1_0_0_1_n_n : DotDims S512x256 S256x512 S512x512) = DotDims.plain 512 256 512 from rfl]
  refine (Ideal.matmul_plain_apply none a b _ i f).trans ?_
  rw [constant_apply, Ideal.ofBits_zero_f32, zero_add]

theorem dot_pair (a : FVec Ideal S512x512 .bf16) (b : FVec Ideal S512x512 .bf16) (i f : Fin 512) :
    matmul dot_S512x512_S512x512_S512x512_1_0_0_1_n_n none a b (constant S512x512 .f32 0x00000000#32) (ix2 i f) = ∑ k : Fin 512, a (ix2 i k) * b (ix2 k f) := by
  rw [show (dot_S512x512_S512x512_S512x512_1_0_0_1_n_n : DotDims S512x512 S512x512 S512x512) = DotDims.plain 512 512 512 from rfl]
  refine (Ideal.matmul_plain_apply none a b _ i f).trans ?_
  rw [constant_apply, Ideal.ofBits_zero_f32, zero_add]

/-! ## The router -/

theorem lift_row (i : Fin 512) (e : Fin 16) : (reduces_S512x16_S512.lift (ix1 i) e : S512x16.Idx) = ix2 i e := by
  funext a
  match a with
  | ⟨0, _⟩ => rfl
  | ⟨1, _⟩ => rfl

/-- A column of numbers, one per token, spread over the sixteen experts. -/
theorem spread {α : Type} (v : S512.Idx → α) (i : Fin 512) (e : Fin 16) :
    broadcastTo S512x16 (shapeCast S512x1 v shapeCasts_S512_S512x1) broadcasts_S512x1_S512x16 (ix2 i e) = v (ix1 i) := by
  rw [broadcastTo_apply _ _ (ix2 i e) (ix2 i (0 : Fin 1)) (fun a => by match a with | ⟨0, _⟩ => rfl | ⟨1, _⟩ => rfl),
    shapeCast_apply _ _ (ix2 i (0 : Fin 1)) (ix1 i) (by
      rw [Shape.rowMajor_val_one, Shape.rowMajor_val_two]
      show i.val = i.val * 1 + 0
      omega)]

theorem same_cast {s : Shape} {α : Type} (v : s.Idx → α) (h : s.ShapeCasts s) : shapeCast s v h = v :=
  funext fun j => shapeCast_apply v h j j rfl

/-- The largest entry of a row. -/
theorem row_max (v : FVec Ideal S512x16 .f32) (hφ : FKind.Formats .f32) (hacc : (0xFF800000#32 : BitVec 32) = FKind.maximumf.neutral .f32 hφ) (i : Fin 512) :
    multiReduction .maximumf [1] S512 v 0xFF800000#32 reduces_S512x16_S512 hφ hacc (ix1 i) = top fun e => v (ix2 i e) := by
  refine (Ideal.multiReduction_maximumf_single v 0xFF800000#32 reduces_S512x16_S512 hφ hacc (ix1 i)).trans ?_
  unfold top
  exact Finset.fold_congr fun e _ => congrArg v (lift_row i e)

/-- The sum of a row. -/
theorem row_sum (v : FVec Ideal S512x16 .f32) (hφ : FKind.Formats .f32) (hacc : (0x00000000#32 : BitVec 32) = FKind.add.neutral .f32 hφ) (i : Fin 512) :
    multiReduction .add [1] S512 v 0x00000000#32 reduces_S512x16_S512 hφ hacc (ix1 i) = ∑ e : Fin 16, v (ix2 i e) :=
  (Ideal.multiReduction_add_single v 0x00000000#32 reduces_S512x16_S512 hφ hacc (ix1 i)).trans (Finset.sum_congr rfl fun e _ => congrArg v (lift_row i e))

/-- The exponentials of a block of scores, each less its row's largest. -/
def weights (M : FVec Ideal S512x16 .f32) : FVec Ideal S512x16 .f32 :=
  exp (subf M (broadcastTo S512x16 (shapeCast S512x1 (multiReduction .maximumf [1] S512 M 0xFF800000#32 reduces_S512x16_S512 (.inl rfl) rfl) shapeCasts_S512_S512x1) broadcasts_S512x1_S512x16))

theorem weights_apply (M : FVec Ideal S512x16 .f32) (i : Fin 512) (e : Fin 16) : weights M (ix2 i e) = weight (fun e => M (ix2 i e)) e := by
  unfold weights weight
  show Ideal.exp (M (ix2 i e) - broadcastTo S512x16 (shapeCast S512x1 _ shapeCasts_S512_S512x1) broadcasts_S512x1_S512x16 (ix2 i e)) = _
  rw [spread]
  exact congrArg (fun t => Ideal.exp (M (ix2 i e) - t)) (row_max M _ _ i)

/-- The router's probabilities of the block's token i. -/
theorem probs_apply (x : FVec Ideal S512x256 .f32) (w : FVec Ideal S256x16 .f32) (i : Fin 512) (e : Fin 16) :
    k0_pay3 (F := Ideal) x w (ix2 i e) = prob (score (fun k => x (ix2 i k)) (fun k e => w (ix2 k e))) e := by
  unfold k0_pay3
  dsimp only
  simp only [same_cast]
  have hs : (fun e => matmul dot_S512x256_S256x16_S512x16_1_0_0_1_n_n none x w (constant S512x16 .f32 0x00000000#32) (ix2 i e))
      = score (fun k => x (ix2 i k)) (fun k e => w (ix2 k e)) := funext fun e => dot_router x w i e
  rw [← hs]
  generalize matmul dot_S512x256_S256x16_S512x16_1_0_0_1_n_n none x w (constant S512x16 .f32 0x00000000#32) = M
  show Ideal.div (weights M (ix2 i e)) (broadcastTo S512x16 (shapeCast S512x1 (multiReduction .add [1] S512 (weights M) 0x00000000#32 reduces_S512x16_S512 _ _) shapeCasts_S512_S512x1) broadcasts_S512x1_S512x16 (ix2 i e)) = _
  rw [spread, weights_apply]
  unfold prob
  exact congrArg (Ideal.div _) ((row_sum (weights M) _ _ i).trans (Finset.sum_congr rfl fun e' _ => weights_apply M i e'))

/-! ## The gated tokens -/

theorem pick {α : Type} (a b : BitVec 32) (u v : α) : Scalar.select (IntOp.cmpi .eq a b) u v = if a = b then u else v := by
  by_cases h : a = b
  · subst h; simp [Scalar.select, IntOp.cmpi]
  · rw [if_neg h, show IntOp.cmpi .eq a b = 0#1 from by rw [show IntOp.cmpi .eq a b = BitVec.ofBool (a == b) from rfl, beq_false_of_ne h]; rfl, select_zero]

/-- Entry (i, 256 e + k) of the gated tokens: coordinate k of token i times its gate of expert e. -/
theorem gated_apply (x : FVec Ideal S512x256 .f32) (w : FVec Ideal S256x16 .f32) (r : IVec S512x1 32) (i : Fin 512) (e : Fin 16) (k : Fin 256) (j : Fin 4096)
    (hj : j.val = 256 * e.val + k.val) :
    gated (F := Ideal) x w r (ix2 i j) = x (ix2 i k) * gate (score (fun k => x (ix2 i k)) (fun k e => w (ix2 k e))) (r (ix2 i (0 : Fin 1))) e := by
  unfold gated k0_pay4 k0_pay1
  dsimp only
  simp only [same_cast]
  rw [shapeCast_apply _ _ (ix2 i j) (ix3 i e k) (by
    rw [Shape.rowMajor_val_two, Shape.rowMajor_val_three]
    show (i.val * 16 + e.val) * 256 + k.val = i.val * 4096 + j.val
    omega)]
  rw [truncf_apply, mulf_apply,
    broadcastTo_apply _ _ (ix3 i e k) (ix3 i (0 : Fin 1) k) (fun a => by match a with | ⟨0, _⟩ => rfl | ⟨1, _⟩ => rfl | ⟨2, _⟩ => rfl),
    shapeCast_apply _ _ (ix3 i (0 : Fin 1) k) (ix2 i k) (by
      rw [Shape.rowMajor_val_two, Shape.rowMajor_val_three]
      show i.val * 256 + k.val = (i.val * 1 + 0) * 256 + k.val
      omega),
    broadcastTo_apply _ _ (ix3 i e k) (ix3 i e (0 : Fin 1)) (fun a => by match a with | ⟨0, _⟩ => rfl | ⟨1, _⟩ => rfl | ⟨2, _⟩ => rfl),
    shapeCast_apply _ _ (ix3 i e (0 : Fin 1)) (ix2 i e) (by
      rw [Shape.rowMajor_val_two, Shape.rowMajor_val_three]
      show i.val * 16 + e.val = (i.val * 16 + e.val) * 1 + 0
      omega),
    select_apply, probs_apply]
  refine congrArg (x (ix2 i k) * ·) ?_
  show Scalar.select (IntOp.cmpi .eq (broadcastTo S512x16 r broadcasts_S512x1_S512x16 (ix2 i e)) (iota .tc S512x16 32 [1] iota_S512x16_d1_w32 (ix2 i e))) _ (Ideal.ofBits .f32 0x00000000#32) = _
  rw [broadcastTo_apply _ _ (ix2 i e) (ix2 i (0 : Fin 1)) (fun a => by match a with | ⟨0, _⟩ => rfl | ⟨1, _⟩ => rfl),
    show iota .tc S512x16 32 [1] iota_S512x16_d1_w32 (ix2 i e) = BitVec.ofNat 32 e.val from iota_single_apply _ _ _ _ _ _, pick, Ideal.ofBits_zero_f32]
  rfl

/-! ## The pairs of experts -/

/-- What the pair of device o adds at (i, f), from its block of the gated tokens. -/
def added (o : Dev nD) (g : S512x4096.Idx → EReal) (e : S2x256x512.Idx → EReal) (i f : Fin 512) : EReal :=
  ∑ a : Fin 2, ∑ k : Fin 256, xgBlk (F := Ideal) o g (ix2 i ⟨256 * a.val + k.val, by have := a.isLt; have := k.isLt; omega⟩) * e (ix3 a k f)

/-- A pair, its two matrices laid one under the other. -/
theorem stacked (e : S2x256x512.Idx → EReal) (a : Fin 2) (k : Fin 256) (f : Fin 512) :
    shapeCast S512x512 e shapeCasts_S2x256x512_S512x512 (ix2 ⟨256 * a.val + k.val, by have := a.isLt; have := k.isLt; omega⟩ f) = e (ix3 a k f) :=
  shapeCast_apply _ _ _ (ix3 a k f) (by
    rw [Shape.rowMajor_val_two, Shape.rowMajor_val_three]
    show (a.val * 256 + k.val) * 512 + f.val = (256 * a.val + k.val) * 512 + f.val
    omega)

/-- A sum over the 512 rows of a stacked pair, as a sum over the two matrices and the rows of each. -/
theorem sum_pair (t : Fin 512 → EReal) : ∑ j : Fin 512, t j = ∑ a : Fin 2, ∑ k : Fin 256, t ⟨256 * a.val + k.val, by have := a.isLt; have := k.isLt; omega⟩ := by
  rw [← Fintype.sum_prod_type', ← Equiv.sum_comp (finProdFinEquiv (m := 2) (n := 256)) (fun j => t j)]
  refine Finset.sum_congr rfl fun p _ => congrArg t (Fin.ext ?_)
  show p.2.val + 256 * p.1.val = 256 * p.1.val + p.2.val
  omega

/-- The product of a block of the gated tokens with a stacked pair. -/
theorem pair_product (o : Dev nD) (g : S512x4096.Idx → EReal) (e : S2x256x512.Idx → EReal) (i f : Fin 512) :
    matmul (F := Ideal) dot_S512x512_S512x512_S512x512_1_0_0_1_n_n none (φ₁ := .bf16) (φ₂ := .bf16) (xgBlk (F := Ideal) o g) (shapeCast S512x512 e shapeCasts_S2x256x512_S512x512)
      (constant S512x512 .f32 0x00000000#32) (ix2 i f) = added o g e i f := by
  rw [dot_pair, sum_pair]
  unfold added
  exact Finset.sum_congr rfl fun a _ => Finset.sum_congr rfl fun k _ => by rw [stacked]

/-- A pair kept as one row of a buffer of four, without that row's unit axis. -/
theorem row_flat (e : S2x256x512.Idx → EReal) : shapeCast S2x256x512 (rowOf (F := Ideal) e) shapeCasts_S1x2x256x512_S2x256x512 = e := by
  funext j
  obtain ⟨a, k, f, rfl⟩ : ∃ a k f, j = ix3 a k f := ⟨j 0, j 1, j 2, eq_ix3 j⟩
  exact shapeCast_1abc_abc_apply _ _ a k f

section Steps
variable (o : Dev nD) (g : S512x4096.Idx → EReal) (s : S512x512.Idx → EReal) (e : S2x256x512.Idx → EReal) (i f : Fin 512)

/-- Every accumulation adds its pair's product: the device's own pair, -/
theorem step_own : k0_pay6 (F := Ideal) (xgBlk (F := Ideal) o g) s e (ix2 i f) = s (ix2 i f) + added o g e i f := by
  unfold k0_pay6; rw [addf_apply, same_cast, pair_product]
/-- the three that came clockwise and the three that came counter-clockwise, -/
theorem step_2 : k0_pay7 (F := Ideal) (xgBlk (F := Ideal) o g) s (rowOf (F := Ideal) e) (ix2 i f) = s (ix2 i f) + added o g e i f := by
  unfold k0_pay7; rw [addf_apply, same_cast, row_flat, pair_product]
theorem step_3 : k0_pay8 (F := Ideal) (xgBlk (F := Ideal) o g) s (rowOf (F := Ideal) e) (ix2 i f) = s (ix2 i f) + added o g e i f := by
  unfold k0_pay8; rw [addf_apply, same_cast, row_flat, pair_product]
theorem step_4 : k0_pay9 (F := Ideal) (xgBlk (F := Ideal) o g) s (rowOf (F := Ideal) e) (ix2 i f) = s (ix2 i f) + added o g e i f := by
  unfold k0_pay9; rw [addf_apply, same_cast, row_flat, pair_product]
theorem step_5 : k0_pay10 (F := Ideal) (xgBlk (F := Ideal) o g) s (rowOf (F := Ideal) e) (ix2 i f) = s (ix2 i f) + added o g e i f := by
  unfold k0_pay10; rw [addf_apply, same_cast, row_flat, pair_product]
theorem step_6 : k0_pay11 (F := Ideal) (xgBlk (F := Ideal) o g) s (rowOf (F := Ideal) e) (ix2 i f) = s (ix2 i f) + added o g e i f := by
  unfold k0_pay11; rw [addf_apply, same_cast, row_flat, pair_product]
theorem step_7 : k0_pay12 (F := Ideal) (xgBlk (F := Ideal) o g) s (rowOf (F := Ideal) e) (ix2 i f) = s (ix2 i f) + added o g e i f := by
  unfold k0_pay12; rw [addf_apply, same_cast, row_flat, pair_product]
/-- and the one from the opposite device. -/
theorem step_last : k0_pay13 (F := Ideal) (xgBlk (F := Ideal) o g) s e (ix2 i f) = s (ix2 i f) + added o g e i f := by
  unfold k0_pay13; rw [addf_apply, same_cast, pair_product]

end Steps

/-- The origins of the eight pairs, in the order device c meets them, are all the devices. -/
theorem eight_perm : ∀ c : Fin 8, (List.finRange 8).Perm [c, before c 1, beyond c 1, before c 2, beyond c 2, before c 3, beyond c 3, go 2 c] := by decide

/-- The eight devices whose pairs are added, in whatever order device c meets them. -/
theorem all_eight (c : Dev nD) (s : EReal) (t : Dev nD → EReal) :
    s + t c + t (before c 1) + t (beyond c 1) + t (before c 2) + t (beyond c 2) + t (before c 3) + t (beyond c 3) + t (go 2 c) = s + ∑ o : Fin 8, t o := by
  rw [Fin.sum_univ_def, ((eight_perm c).map t).sum_eq]
  simp only [List.map_cons, List.map_nil, List.sum_cons, List.sum_nil, add_zero, add_assoc]

/-- A sum over the sixteen experts, as a sum over the devices and the two experts of each. -/
theorem sum_experts (t : Fin 16 → EReal) : ∑ o : Fin 8, ∑ a : Fin 2, t ⟨2 * o.val + a.val, by have := o.isLt; have := a.isLt; omega⟩ = ∑ e : Fin 16, t e := by
  rw [← Fintype.sum_prod_type', ← Equiv.sum_comp (finProdFinEquiv (m := 8) (n := 2)) (fun j => t j)]
  refine Finset.sum_congr rfl fun p _ => congrArg t (Fin.ext ?_)
  show 2 * p.1.val + p.2.val = p.2.val + 2 * p.1.val
  omega

/-- Element (i, f) of the output of device c: the kernel's row of the block's token i, when the pair of device o holds matrices 2 o and 2 o + 1 of W. -/
theorem result_apply (E : Dev nD → S2x256x512.Idx → EReal) (c : Dev nD) (x : S512x256.Idx → EReal) (w : S256x16.Idx → EReal) (r : S512x1.Idx → BitVec 32)
    (sw : S256x512.Idx → EReal) (W : Fin 16 → Fin 256 → EReal) (i f : Fin 512)
    (hW : ∀ (o : Fin 8) (a : Fin 2) (k : Fin 256), E o (ix3 a k f) = W ⟨2 * o.val + a.val, by have := o.isLt; have := a.isLt; omega⟩ k) :
    result (F := Ideal) E c x w r sw (ix2 i f)
      = kernelRow (fun k => x (ix2 i k)) (fun k e => w (ix2 k e)) (r (ix2 i (0 : Fin 1))) W (fun k => sw (ix2 k f)) := by
  unfold result acc8 acc7 acc6 acc5 acc4 acc3 acc2 acc1
  rw [step_last, step_7, step_6, step_5, step_4, step_3, step_2, step_own]
  refine (all_eight c _ (fun o => added o (gated (F := Ideal) x w r) (E o) i f)).trans ?_
  unfold kernelRow
  refine congrArg₂ (· + ·) ?_ ?_
  · unfold k0_pay5 k0_pay1
    dsimp only
    rw [dot_shared]
    simp only [truncf_apply, same_cast]
  · rw [← sum_experts]
    refine Finset.sum_congr rfl fun o _ => ?_
    unfold added
    refine Finset.sum_congr rfl fun a _ => Finset.sum_congr rfl fun k _ => ?_
    rw [hW]
    refine congrArg (· * _) ?_
    exact gated_apply x w r i ⟨2 * o.val + a.val, by have := o.isLt; have := a.isLt; omega⟩ k _ (by
      show 512 * o.val + (256 * a.val + k.val) = 256 * (2 * o.val + a.val) + k.val
      omega)

end Cert.KernelValue

end
-- ==== Proof.ReferenceValue.lean ====
/-
  What the reference computes, element by element: the row of the token.
-/
module

public import proofs.«01_k».proof.Proof.Routing
public import proofs.«01_k».proof.Proof.Gen.ReferenceIdeal
public import Idealize.ShloMosaic.Lib.StableHlo
public import Idealize.ShloMosaic.Lib.IdealHost
public import Idealize.ShloMosaic.Lib.ValueIdx
public import Idealize.ShloMosaic.Lib.Pipeline.Value

@[expose] public section

noncomputable section

namespace Cert.ReferenceValue

open Cert.ReferenceIdeal Cert.ReferenceIdeal.Gen Cert.Routing
open Idealize.ShloMosaic Idealize.ShloMosaic.ValueIdx
open scoped BigOperators

/-! ## The matrix products -/

theorem dot_router (a : FVec Ideal S4096x256 .f32) (b : FVec Ideal S256x16 .f32) (i : Fin 4096) (e : Fin 16) :
    Host.dotGeneral (F := Ideal) dot_S4096x256_S256x16_S4096x16_1_0_0_1_n_n none a b (ix2 i e) = ∑ k : Fin 256, a (ix2 i k) * b (ix2 k e) := by
  let D : DotDims S4096x256 S256x16 S4096x16 := dot_S4096x256_S256x16_S4096x16_1_0_0_1_n_n
  have hr : D.contr.rank = 1 := rfl
  have hs : D.contr.size ⟨0, by rw [hr]; omega⟩ = 256 := rfl
  refine (Ideal.dotGeneral_apply D none _ a b (ix2 i e)).trans ?_
  rw [← Equiv.sum_comp (contrEquiv1 D 256 hr hs).symm]
  refine Finset.sum_congr rfl fun k _ => ?_
  have hk := contrEquiv1_symm_val D 256 hr hs k
  refine congrArg₂ (fun p q => a p * b q) (funext fun t => Fin.ext ?_) (funext fun t => Fin.ext ?_)
  · match t with
    | ⟨0, _⟩ => rfl
    | ⟨1, _⟩ => exact hk
  · match t with
    | ⟨0, _⟩ => exact hk
    | ⟨1, _⟩ => rfl

theorem dot_shared (a : FVec Ideal S4096x256 .f32) (b : FVec Ideal S256x512 .f32) (i : Fin 4096) (f : Fin 512) :
    Host.dotGeneral (F := Ideal) dot_S4096x256_S256x512_S4096x512_1_0_0_1_n_n none a b (ix2 i f) = ∑ k : Fin 256, a (ix2 i k) * b (ix2 k f) := by
  let D : DotDims S4096x256 S256x512 S4096x512 := dot_S4096x256_S256x512_S4096x512_1_0_0_1_n_n
  have hr : D.contr.rank = 1 := rfl
  have hs : D.contr.size ⟨0, by rw [hr]; omega⟩ = 256 := rfl
  refine (Ideal.dotGeneral_apply D none _ a b (ix2 i f)).trans ?_
  rw [← Equiv.sum_comp (contrEquiv1 D 256 hr hs).symm]
  refine Finset.sum_congr rfl fun k _ => ?_
  have hk := contrEquiv1_symm_val D 256 hr hs k
  refine congrArg₂ (fun p q => a p * b q) (funext fun t => Fin.ext ?_) (funext fun t => Fin.ext ?_)
  · match t with
    | ⟨0, _⟩ => rfl
    | ⟨1, _⟩ => exact hk
  · match t with
    | ⟨0, _⟩ => exact hk
    | ⟨1, _⟩ => rfl

/-- Every token with a matrix of its own. -/
theorem dot_own (a : FVec Ideal S4096x256 .f32) (b : FVec Ideal S4096x256x512 .f32) (i : Fin 4096) (f : Fin 512) :
    Host.dotGeneral (F := Ideal) dot_S4096x256_S4096x256x512_S4096x512_1_1_n_2_0_0 none a b (ix2 i f) = ∑ k : Fin 256, a (ix2 i k) * b (ix3 i k f) := by
  let D : DotDims S4096x256 S4096x256x512 S4096x512 := dot_S4096x256_S4096x256x512_S4096x512_1_1_n_2_0_0
  have hr : D.contr.rank = 1 := rfl
  have hs : D.contr.size ⟨0, by rw [hr]; omega⟩ = 256 := rfl
  refine (Ideal.dotGeneral_apply D none _ a b (ix2 i f)).trans ?_
  rw [← Equiv.sum_comp (contrEquiv1 D 256 hr hs).symm]
  refine Finset.sum_congr rfl fun k _ => ?_
  have hk := contrEquiv1_symm_val D 256 hr hs k
  refine congrArg₂ (fun p q => a p * b q) (funext fun t => Fin.ext ?_) (funext fun t => Fin.ext ?_)
  · match t with
    | ⟨0, _⟩ => rfl
    | ⟨1, _⟩ => exact hk
  · match t with
    | ⟨0, _⟩ => rfl
    | ⟨1, _⟩ => exact hk
    | ⟨2, _⟩ => rfl

/-! ## Along a row -/

theorem drops_row : S4096x16.Reduces [1] S4096 := by decide

theorem lift_row (i : Fin 4096) (e : Fin 16) : (drops_row.lift (ix1 i) e : S4096x16.Idx) = ix2 i e := by
  funext a
  match a with
  | ⟨0, _⟩ => rfl
  | ⟨1, _⟩ => rfl

/-- The largest entry of a row. -/
theorem row_max (v : FVec Ideal S4096x16 .f32) (i : Fin 4096) :
    Host.reduce (FloatOps.maximumf (F := Ideal) (φ := .f32)) v (constant (F := Ideal) S_ .f32 0xFF800000#32) reducesTo_S4096x16_S4096_d1 h_S_ (ix1 i) = top fun e => v (ix2 i e) := by
  refine (Host.reduce_eq_fold_single (FloatOps.maximumf (F := Ideal) (φ := .f32)) v _ reducesTo_S4096x16_S4096_d1 drops_row h_S_ (ix1 i)).trans ?_
  unfold top
  exact Finset.fold_congr fun e _ => congrArg v (lift_row i e)

/-- The sum of a row. -/
theorem row_sum (v : FVec Ideal S4096x16 .f32) (i : Fin 4096) :
    Host.reduceAdd (F := Ideal) v (constant (F := Ideal) S_ .f32 0x00000000#32) reducesTo_S4096x16_S4096_d1 h_S_ (ix1 i) = ∑ e : Fin 16, v (ix2 i e) := by
  rw [hostReduceAdd_apply, Ideal.hostReduceAdd_single _ drops_row, constant_apply, Ideal.ofBits_zero_f32, zero_add]
  exact Finset.sum_congr rfl fun e _ => congrArg v (lift_row i e)

/-- A column, one entry per token. -/
theorem column {α : Type} (v : S4096.Idx → α) (i : Fin 4096) : broadcastInDim S4096x1 ![0] bcast_S4096_S4096x1_0 v (ix2 i (0 : Fin 1)) = v (ix1 i) :=
  broadcastInDim_apply _ _ _ _ (ix1 i) fun a => by match a with | ⟨0, _⟩ => rfl

/-- A column spread over the sixteen experts. -/
theorem spread {α : Type} (v : S4096x1.Idx → α) (i : Fin 4096) (e : Fin 16) :
    broadcastInDim S4096x16 ![0, 1] bcast_S4096x1_S4096x16_0_1 v (ix2 i e) = v (ix2 i (0 : Fin 1)) :=
  broadcastInDim_apply _ _ _ _ (ix2 i (0 : Fin 1)) fun a => by match a with | ⟨0, _⟩ => rfl | ⟨1, _⟩ => rfl

/-! ## The stages -/

/-- The exponentials of the scores, each less its row's largest. -/
def weights (M : FVec Ideal S4096x16 .f32) : FVec Ideal S4096x16 .f32 :=
  Host.exp (subf M (broadcastInDim S4096x16 ![0, 1] bcast_S4096x1_S4096x16_0_1 (broadcastInDim S4096x1 ![0] bcast_S4096_S4096x1_0
    (Host.reduce FloatOps.maximumf M (constant S_ .f32 0xFF800000#32) reducesTo_S4096x16_S4096_d1 h_S_))))

theorem weights_apply (M : FVec Ideal S4096x16 .f32) (i : Fin 4096) (e : Fin 16) : weights M (ix2 i e) = weight (fun e => M (ix2 i e)) e := by
  unfold weights weight
  exact congrArg (fun z => Ideal.exp (M (ix2 i e) - z)) ((spread _ i e).trans ((column _ i).trans (row_max M i)))

/-- The probabilities. -/
def probs (M : FVec Ideal S4096x16 .f32) : FVec Ideal S4096x16 .f32 :=
  Host.divf (weights M) (broadcastInDim S4096x16 ![0, 1] bcast_S4096x1_S4096x16_0_1 (broadcastInDim S4096x1 ![0] bcast_S4096_S4096x1_0
    (Host.reduceAdd (weights M) (constant S_ .f32 0x00000000#32) reducesTo_S4096x16_S4096_d1 h_S_)))

theorem probs_apply (M : FVec Ideal S4096x16 .f32) (i : Fin 4096) (e : Fin 16) : probs M (ix2 i e) = prob (fun e => M (ix2 i e)) e := by
  unfold probs prob
  rw [hostDivf_apply, weights_apply, spread, column, row_sum]
  exact congrArg (Ideal.div _) (Finset.sum_congr rfl fun e' _ => weights_apply M i e')

/-! ## Indexing -/

/-- A 32-bit word that lies, read signed, between zero and a bound below two to the thirty-first. -/
theorem inside (r : BitVec 32) (n : ℕ) (hn : n < 2 ^ 31) :
    IntOp.andi (IntOp.cmpi .sge r 0#32) (IntOp.cmpi .sle r (BitVec.ofNat 32 n)) = if r.toNat ≤ n then 1#1 else 0#1 := by
  have h0 : IntOp.cmpi .sge r 0#32 = BitVec.ofBool (decide (0 ≤ r.toInt)) := rfl
  have h1 : IntOp.cmpi .sle r (BitVec.ofNat 32 n) = BitVec.ofBool (decide (r.toInt ≤ (BitVec.ofNat 32 n).toInt)) := rfl
  have hi : (BitVec.ofNat 32 n).toInt = n := by rw [BitVec.toInt_eq_toNat_cond, BitVec.toNat_ofNat]; omega
  have hr := r.isLt
  have hc := BitVec.toInt_eq_toNat_cond r
  rw [h0, h1, hi]
  by_cases h : r.toNat ≤ n
  · rw [if_pos h, decide_eq_true (by omega), decide_eq_true (by omega)]; rfl
  · rw [if_neg h]
    by_cases h' : 0 ≤ r.toInt
    · rw [decide_eq_true h', decide_eq_false (by omega)]; rfl
    · rw [decide_eq_false h']
      cases decide (r.toInt ≤ (n : ℤ)) <;> rfl

theorem toNat_of_small (r : BitVec 32) (h : r.toNat < 2 ^ 31) : r.toInt.toNat = r.toNat := by
  rw [BitVec.toInt_eq_toNat_cond]; omega

theorem drops_pair : S4096x2.Reduces [1] S4096 := by decide
theorem drops_one : S4096x1.Reduces [1] S4096 := by decide

theorem and_two (g : Fin 2 → BitVec 1) : Finset.univ.fold IntOp.andi 1#1 g = IntOp.andi (g 0) (g 1) := by
  generalize h0 : g 0 = a
  generalize h1 : g 1 = b
  rw [show g = ![a, b] from funext fun i => by fin_cases i <;> assumption]
  clear h0 h1
  revert a b
  decide

theorem and_one (g : Fin 1 → BitVec 1) : Finset.univ.fold IntOp.andi 1#1 g = g 0 := by
  generalize h0 : g 0 = a
  rw [show g = ![a] from funext fun i => by fin_cases i; assumption]
  clear h0
  revert a
  decide

/-- The tokens' indices, one column. -/
def own (r : IVec S4096x1 32) : IVec S4096x1 32 := broadcastInDim S4096x1 ![0] bcast_S4096_S4096x1_0 (shapeCast S4096 r shapeCasts_S4096x1_S4096)

theorem own_apply (r : IVec S4096x1 32) (i : Fin 4096) : own r (ix2 i (0 : Fin 1)) = r (ix2 i (0 : Fin 1)) := by
  unfold own
  rw [column]
  exact shapeCast_apply _ _ _ _ (by rw [Shape.rowMajor_val_one, Shape.rowMajor_val_two]; show i.val * 1 + 0 = i.val; omega)

/-- The token's number and its index, side by side. -/
def both (r : IVec S4096x1 32) : IVec S4096x2 32 :=
  concatenate S4096x2 1 [⟨S4096x1, (broadcastInDim S4096x1 ![0] bcast_S4096_S4096x1_0 (iotaInDim S4096 32 0))⟩, ⟨S4096x1, own r⟩] concatenates_S4096x1_S4096x1_S4096x2_d1

theorem both_token (r : IVec S4096x1 32) (i : Fin 4096) : both r (ix2 i (0 : Fin 2)) = BitVec.ofNat 32 i.val := by
  unfold both
  rw [concatenate_pair_apply_left (t := S4096x2) (s₁ := S4096x1) (s₂ := S4096x1) 1 _ _ _ (ix2 i (0 : Fin 2)) rfl (ix2 i (0 : Fin 1)) (fun b => by match b with | ⟨0, _⟩ => rfl | ⟨1, _⟩ => rfl), column, iotaInDim_apply]

theorem both_index (r : IVec S4096x1 32) (i : Fin 4096) : both r (ix2 i (1 : Fin 2)) = r (ix2 i (0 : Fin 1)) := by
  unfold both
  rw [concatenate_pair_apply_right (t := S4096x2) (s₁ := S4096x1) (s₂ := S4096x1) 1 _ _ _ (ix2 i (1 : Fin 2)) rfl rfl (ix2 i (0 : Fin 1))
    (fun b hb => by match b with | ⟨0, _⟩ => rfl | ⟨1, _⟩ => exact absurd rfl hb) rfl, own_apply]

/-- Whether the pair names an entry of the probabilities. -/
def named (r : IVec S4096x1 32) : IVec S4096 1 :=
  Host.reduce IntOp.andi (andi (cmpi .sge (both r) (broadcastInDim S4096x2 ![] bcast_S_S4096x2 (constantI S_ 32 0#32)))
    (cmpi .sle (both r) (broadcastInDim S4096x2 ![0, 1] bcast_S1x2_S4096x2_0_1 (broadcastInDim S1x2 ![1] bcast_S2_S1x2_1 (fun i => lit0 (S2.rowMajor i))))))
    (constantI S_ 1 1#1) reducesTo_S4096x2_S4096_d1 h_S_

theorem bounds (i : Fin 4096) (a : Fin 2) :
    broadcastInDim S4096x2 ![0, 1] bcast_S1x2_S4096x2_0_1 (broadcastInDim S1x2 ![1] bcast_S2_S1x2_1 (fun i => lit0 (S2.rowMajor i))) (ix2 i a) = lit0 a := by
  rw [broadcastInDim_apply _ _ _ (ix2 i a) (ix2 (0 : Fin 1) a) (fun b => by match b with | ⟨0, _⟩ => rfl | ⟨1, _⟩ => rfl),
    broadcastInDim_apply _ _ _ (ix2 (0 : Fin 1) a) (ix1 a) (fun b => by match b with | ⟨0, _⟩ => rfl)]
  exact congrArg lit0 (Fin.ext (Shape.rowMajor_val_one _))

theorem named_apply (r : IVec S4096x1 32) (i : Fin 4096) : named r (ix1 i) = if (r (ix2 i (0 : Fin 1))).toNat ≤ 15 then 1#1 else 0#1 := by
  unfold named
  refine (Host.reduce_eq_fold_single IntOp.andi _ _ reducesTo_S4096x2_S4096_d1 drops_pair h_S_ (ix1 i)).trans ?_
  refine (and_two _).trans ?_
  have l0 : (drops_pair.lift (ix1 i) (0 : Fin 2) : S4096x2.Idx) = ix2 i (0 : Fin 2) := funext fun a => by match a with | ⟨0, _⟩ => rfl | ⟨1, _⟩ => rfl
  have l1 : (drops_pair.lift (ix1 i) (1 : Fin 2) : S4096x2.Idx) = ix2 i (1 : Fin 2) := funext fun a => by match a with | ⟨0, _⟩ => rfl | ⟨1, _⟩ => rfl
  have e0 : IntOp.andi (IntOp.cmpi .sge (both r (ix2 i (0 : Fin 2))) 0#32) (IntOp.cmpi .sle (both r (ix2 i (0 : Fin 2))) (BitVec.ofNat 32 4095)) = 1#1 := by
    rw [inside _ _ (by omega), both_token, BitVec.toNat_ofNat, if_pos (by have := i.isLt; omega)]
  have e1 : IntOp.andi (IntOp.cmpi .sge (both r (ix2 i (1 : Fin 2))) 0#32) (IntOp.cmpi .sle (both r (ix2 i (1 : Fin 2))) (BitVec.ofNat 32 15))
      = if (r (ix2 i (0 : Fin 1))).toNat ≤ 15 then 1#1 else 0#1 := by
    rw [inside _ _ (by omega), both_index]
  have m0 := bounds i 0
  have m1 := bounds i 1
  refine (congrArg₂ IntOp.andi ?_ ?_).trans ((congrArg₂ IntOp.andi e0 e1).trans ?_)
  · show andi _ _ (drops_pair.lift (ix1 i) (0 : Fin 2)) = _
    rw [l0]
    exact congrArg (fun z => IntOp.andi (IntOp.cmpi .sge (both r (ix2 i (0 : Fin 2))) 0#32) (IntOp.cmpi .sle (both r (ix2 i (0 : Fin 2))) z)) m0
  · show andi _ _ (drops_pair.lift (ix1 i) (1 : Fin 2)) = _
    rw [l1]
    exact congrArg (fun z => IntOp.andi (IntOp.cmpi .sge (both r (ix2 i (1 : Fin 2))) 0#32) (IntOp.cmpi .sle (both r (ix2 i (1 : Fin 2))) z)) m1
  · split <;> rfl

/-- Whether the index names an expert. -/
def known (r : IVec S4096x1 32) : IVec S4096 1 :=
  Host.reduce IntOp.andi (andi (cmpi .sge (own r) (broadcastInDim S4096x1 ![] bcast_S_S4096x1 (constantI S_ 32 0#32)))
    (cmpi .sle (own r) (broadcastInDim S4096x1 ![0, 1] bcast_S1x1_S4096x1_0_1 (broadcastInDim S1x1 ![1] bcast_S1_S1x1_1 (constantI S1 32 15#32)))))
    (constantI S_ 1 1#1) reducesTo_S4096x1_S4096_d1 h_S_

theorem known_apply (r : IVec S4096x1 32) (i : Fin 4096) : known r (ix1 i) = if (r (ix2 i (0 : Fin 1))).toNat ≤ 15 then 1#1 else 0#1 := by
  unfold known
  refine (Host.reduce_eq_fold_single IntOp.andi _ _ reducesTo_S4096x1_S4096_d1 drops_one h_S_ (ix1 i)).trans ?_
  refine (and_one _).trans ?_
  have l0 : (drops_one.lift (ix1 i) (0 : Fin 1) : S4096x1.Idx) = ix2 i (0 : Fin 1) := funext fun a => by match a with | ⟨0, _⟩ => rfl | ⟨1, _⟩ => rfl
  show andi _ _ (drops_one.lift (ix1 i) (0 : Fin 1)) = _
  rw [l0]
  show IntOp.andi (IntOp.cmpi .sge (own r (ix2 i (0 : Fin 1))) 0#32) (IntOp.cmpi .sle (own r (ix2 i (0 : Fin 1))) (BitVec.ofNat 32 15)) = _
  rw [inside _ _ (by omega), own_apply]

/-- An entry of the probabilities by token and index, the index read signed and brought into range. -/
theorem gather_prob (p : FVec Ideal S4096x16 .f32) (x : IVec S4096x2 32) (i : Fin 4096) :
    Host.gather gather_S4096x16_S4096x2_S4096_n_01_n_n_01_1_11 p x (ix1 i)
      = p (ix2 (⟨min (x (ix2 i (0 : Fin 2))).toInt.toNat 4095, by omega⟩ : Fin 4096) (⟨min (x (ix2 i (1 : Fin 2))).toInt.toNat 15, by omega⟩ : Fin 16)) := by
  let D := gather_S4096x16_S4096x2_S4096_n_01_n_n_01_1_11
  have s0 : ∀ h, D.siIdx (ix1 i) ⟨0, h⟩ = ix2 i (0 : Fin 2) := fun h => funext fun a => by match a with | ⟨0, _⟩ => rfl | ⟨1, _⟩ => rfl
  have s1 : ∀ h, D.siIdx (ix1 i) ⟨1, h⟩ = ix2 i (1 : Fin 2) := fun h => funext fun a => by match a with | ⟨0, _⟩ => rfl | ⟨1, _⟩ => rfl
  refine congrArg p (funext fun a => Fin.ext ?_)
  match a with
  | ⟨0, _⟩ => exact congrArg (fun z => min (x z).toInt.toNat 4095) (s0 (by decide))
  | ⟨1, _⟩ => exact congrArg (fun z => min (x z).toInt.toNat 15) (s1 (by decide))

/-- An expert's matrix by index, likewise. -/
theorem gather_expert (w : FVec Ideal S16x256x512 .f32) (x : IVec S4096x1 32) (i : Fin 4096) (k : Fin 256) (f : Fin 512) :
    Host.gather gather_S16x256x512_S4096x1_S4096x256x512_12_0_n_n_0_1_1256512 w x (ix3 i k f)
      = w (ix3 (⟨min (x (ix2 i (0 : Fin 1))).toInt.toNat 15, by omega⟩ : Fin 16) k f) := by
  let D := gather_S16x256x512_S4096x1_S4096x256x512_12_0_n_n_0_1_1256512
  have s0 : ∀ h, D.siIdx (ix3 i k f) ⟨0, h⟩ = ix2 i (0 : Fin 1) := fun h => funext fun a => by match a with | ⟨0, _⟩ => rfl | ⟨1, _⟩ => rfl
  refine congrArg w (funext fun a => Fin.ext ?_)
  match a with
  | ⟨0, _⟩ => exact congrArg (fun z => min (x z).toInt.toNat 15) (s0 (by decide))
  | ⟨1, _⟩ => exact Nat.zero_add _
  | ⟨2, _⟩ => exact Nat.zero_add _

/-- The probability of each token's expert. -/
def gates (p : FVec Ideal S4096x16 .f32) (r : IVec S4096x1 32) : FVec Ideal S4096 .f32 :=
  select (named r) (Host.gather gather_S4096x16_S4096x2_S4096_n_01_n_n_01_1_11 p (both r)) (broadcastInDim S4096 ![] bcast_S_S4096 (constant S_ .f32 0x00000000#32))

theorem gates_apply (p : FVec Ideal S4096x16 .f32) (r : IVec S4096x1 32) (i : Fin 4096) : gates p r (ix1 i) = look (fun e => p (ix2 i e)) (r (ix2 i (0 : Fin 1))) := by
  unfold gates look
  rw [select_apply, named_apply, gather_prob, broadcastInDim_scalar_apply, constant_apply, Ideal.ofBits_zero_f32]
  by_cases h : (r (ix2 i (0 : Fin 1))).toNat < 16
  · rw [dif_pos h, if_pos (by omega)]
    have ht : (⟨min (both r (ix2 i (0 : Fin 2))).toInt.toNat 4095, by omega⟩ : Fin 4096) = i := Fin.ext (by
      have := i.isLt
      show min (both r (ix2 i (0 : Fin 2))).toInt.toNat 4095 = i.val
      rw [both_token, toNat_of_small _ (by rw [BitVec.toNat_ofNat]; omega), BitVec.toNat_ofNat]; omega)
    have hr : (⟨min (both r (ix2 i (1 : Fin 2))).toInt.toNat 15, by omega⟩ : Fin 16) = ⟨(r (ix2 i (0 : Fin 1))).toNat, h⟩ := Fin.ext (by
      show min (both r (ix2 i (1 : Fin 2))).toInt.toNat 15 = (r (ix2 i (0 : Fin 1))).toNat
      rw [both_index, toNat_of_small _ (by omega)]; omega)
    rw [ht, hr]
    rfl
  · rw [dif_neg h, if_neg (by omega)]
    rfl

/-- The matrix of each token's expert. -/
def matrices (ew : FVec Ideal S16x256x512 .f32) (r : IVec S4096x1 32) : FVec Ideal S4096x256x512 .f32 :=
  select (broadcastInDim S4096x256x512 ![0] bcast_S4096_S4096x256x512_0 (known r)) (Host.gather gather_S16x256x512_S4096x1_S4096x256x512_12_0_n_n_0_1_1256512 ew (own r))
    (broadcastInDim S4096x256x512 ![] bcast_S_S4096x256x512 (constant S_ .f32 0x00000000#32))

theorem matrices_apply (ew : FVec Ideal S16x256x512 .f32) (r : IVec S4096x1 32) (i : Fin 4096) (k : Fin 256) (f : Fin 512) :
    matrices ew r (ix3 i k f) = look (fun e => ew (ix3 e k f)) (r (ix2 i (0 : Fin 1))) := by
  unfold matrices look
  rw [select_apply, broadcastInDim_apply _ _ _ (ix3 i k f) (ix1 i) (fun a => by match a with | ⟨0, _⟩ => rfl), known_apply, gather_expert,
    broadcastInDim_scalar_apply, constant_apply, Ideal.ofBits_zero_f32]
  by_cases h : (r (ix2 i (0 : Fin 1))).toNat < 16
  · rw [dif_pos h, if_pos (by omega)]
    have hr : (⟨min (own r (ix2 i (0 : Fin 1))).toInt.toNat 15, by omega⟩ : Fin 16) = ⟨(r (ix2 i (0 : Fin 1))).toNat, h⟩ := Fin.ext (by
      show min (own r (ix2 i (0 : Fin 1))).toInt.toNat 15 = (r (ix2 i (0 : Fin 1))).toNat
      rw [own_apply, toNat_of_small _ (by omega)]; omega)
    rw [hr]
    rfl
  · rw [dif_neg h, if_neg (by omega)]
    rfl

/-- The reference's result, of its five arguments. -/
def value (x : FVec Ideal S4096x256 .f32) (w : FVec Ideal S256x16 .f32) (r : IVec S4096x1 32) (ew : FVec Ideal S16x256x512 .f32) (sw : FVec Ideal S256x512 .f32) :
    FVec Ideal S4096x512 .f32 :=
  addf (Host.dotGeneral dot_S4096x256_S256x512_S4096x512_1_0_0_1_n_n none x sw)
    (mulf (broadcastInDim S4096x512 ![0, 1] bcast_S4096x1_S4096x512_0_1 (broadcastInDim S4096x1 ![0] bcast_S4096_S4096x1_0
      (gates (probs (Host.dotGeneral dot_S4096x256_S256x16_S4096x16_1_0_0_1_n_n none x w)) r)))
      (Host.dotGeneral dot_S4096x256_S4096x256x512_S4096x512_1_1_n_2_0_0 none x (matrices ew r)))

/-- Element (i, f) of the reference's result: the reference's row of token i. -/
theorem value_apply (x : FVec Ideal S4096x256 .f32) (w : FVec Ideal S256x16 .f32) (r : IVec S4096x1 32) (ew : FVec Ideal S16x256x512 .f32) (sw : FVec Ideal S256x512 .f32)
    (i : Fin 4096) (f : Fin 512) :
    value x w r ew sw (ix2 i f)
      = referenceRow (fun k => x (ix2 i k)) (fun k e => w (ix2 k e)) (r (ix2 i (0 : Fin 1))) (fun e k => ew (ix3 e k f)) (fun k => sw (ix2 k f)) := by
  have hs : (fun e => Host.dotGeneral (F := Ideal) dot_S4096x256_S256x16_S4096x16_1_0_0_1_n_n none x w (ix2 i e))
      = score (fun k => x (ix2 i k)) (fun k e => w (ix2 k e)) := funext fun e => dot_router x w i e
  have hp : (fun e => probs (Host.dotGeneral (F := Ideal) dot_S4096x256_S256x16_S4096x16_1_0_0_1_n_n none x w) (ix2 i e))
      = prob (score (fun k => x (ix2 i k)) (fun k e => w (ix2 k e))) := funext fun e => by rw [probs_apply, hs]
  unfold value referenceRow
  rw [addf_apply, mulf_apply, dot_shared, dot_own,
    broadcastInDim_apply _ _ _ (ix2 i f) (ix2 i (0 : Fin 1)) (fun a => by match a with | ⟨0, _⟩ => rfl | ⟨1, _⟩ => rfl), column, gates_apply, hp]
  exact congrArg (_ + _ * ·) (Finset.sum_congr rfl fun k _ => congrArg (x (ix2 i k) * ·) (matrices_apply ew r i k f))

end Cert.ReferenceValue

end
-- ==== Proof.Equation.lean ====
/-
  The equation of the two programs: each device's result is its block of the reference's.
-/
module

public import proofs.«01_k».proof.Defs
public import proofs.«01_k».proof.Proof.Launch
public import proofs.«01_k».proof.Proof.KernelValue
public import proofs.«01_k».proof.Proof.ReferenceValue
public import proofs.«01_k».proof.Proof.Finite
public import proofs.«01_k».proof.Proof.Gen.ReferenceIdeal.Run
public import Idealize.ShloMosaic.Lib.Layout

@[expose] public section

noncomputable section

namespace Cert.Equation

open Cert.KernelIdeal Cert.KernelIdeal.Gen Cert.KernelIdeal.Ring Cert.Routing
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The windows are whole arrays -/

theorem xIn_eq (c : Dev nD) : xIn m ρ c = m ((c : Thread nD τ).loc main_arg0) :=
  have hz : (fun a => (win0_0.index (0 : Fin 1)) a * main_arg0.ty.shape.size a) = fun _ => 0 := funext fun a => by fin_cases a <;> decide
  Memref.read_access_unit_zero (Elt Ideal) main_arg0 hz (fun a => by fin_cases a <;> decide) _

theorem rwIn_eq (c : Dev nD) : rwIn m ρ c = m ((c : Thread nD τ).loc main_arg1) :=
  have hz : (fun a => (win0_1.index (0 : Fin 1)) a * main_arg1.ty.shape.size a) = fun _ => 0 := funext fun a => by fin_cases a <;> decide
  Memref.read_access_unit_zero (Elt Ideal) main_arg1 hz (fun a => by fin_cases a <;> decide) _

theorem idxIn_eq (c : Dev nD) : idxIn m ρ c = m ((c : Thread nD τ).loc main_arg2) :=
  have hz : (fun a => (win0_2.index (0 : Fin 1)) a * main_arg2.ty.shape.size a) = fun _ => 0 := funext fun a => by fin_cases a <;> decide
  Memref.read_access_unit_zero (Elt Ideal) main_arg2 hz (fun a => by fin_cases a <;> decide) _

theorem ewIn_eq (c : Dev nD) : ewIn m ρ c = m ((c : Thread nD τ).loc main_arg3) :=
  have hz : (fun a => (win0_3.index (0 : Fin 1)) a * main_arg3.ty.shape.size a) = fun _ => 0 := funext fun a => by fin_cases a <;> decide
  Memref.read_access_unit_zero (Elt Ideal) main_arg3 hz (fun a => by fin_cases a <;> decide) _

theorem swIn_eq (c : Dev nD) : swIn m ρ c = m ((c : Thread nD τ).loc main_arg4) :=
  have hz : (fun a => (win0_4.index (0 : Fin 1)) a * main_arg4.ty.shape.size a) = fun _ => 0 := funext fun a => by fin_cases a <;> decide
  Memref.read_access_unit_zero (Elt Ideal) main_arg4 hz (fun a => by fin_cases a <;> decide) _

/-- The result array ends holding what the body left. -/
theorem final_5 (c : Dev nD) : finalA m ρ c (5 : Fin 6) = outAt m ρ c :=
  have hz : (fun a => (win0_5.index (0 : Fin 1)) a * main_v1.ty.shape.size a) = fun _ => 0 := funext fun a => by fin_cases a <;> decide
  (Memref.read_access_unit_zero (Elt Ideal) main_v1 hz (fun a => by fin_cases a <;> decide) _).symm.trans (final_out m ρ c)

/-- The pair a device sends round is the pair it holds: narrowing changes no value. -/
theorem pairOf_apply (c : Dev nD) (j : S2x256x512.Idx) : pairOf m ρ c j = ewIn m ρ c j := by
  unfold pairOf k0_pay2
  simp only [Cert.KernelValue.same_cast]
  rfl

/-! ## Where a block's element lies -/

theorem row_of (c : Dev nD) (i : Fin 512) : c.val * 512 + i.val < 4096 := by have h : c.val < 8 := c.isLt; omega

theorem block_x (h : Layout.Tiles ⟨2, ![512, 256]⟩ ⟨2, ![4096, 256]⟩ 0 8) (c : Fin 8) (i : Fin 512) (k : Fin 256) :
    h.idx c (ix2 i k) = ix2 (⟨c.val * 512 + i.val, by omega⟩ : Fin 4096) k := by
  funext a
  match a with
  | ⟨0, _⟩ => rfl
  | ⟨1, _⟩ => rfl

theorem block_r (h : Layout.Tiles ⟨2, ![512, 1]⟩ ⟨2, ![4096, 1]⟩ 0 8) (c : Fin 8) (i : Fin 512) (k : Fin 1) :
    h.idx c (ix2 i k) = ix2 (⟨c.val * 512 + i.val, by omega⟩ : Fin 4096) k := by
  funext a
  match a with
  | ⟨0, _⟩ => rfl
  | ⟨1, _⟩ => rfl

theorem block_out (h : Layout.Tiles ⟨2, ![512, 512]⟩ ⟨2, ![4096, 512]⟩ 0 8) (c : Fin 8) (i : Fin 512) (f : Fin 512) :
    h.idx c (ix2 i f) = ix2 (⟨c.val * 512 + i.val, by omega⟩ : Fin 4096) f := by
  funext a
  match a with
  | ⟨0, _⟩ => rfl
  | ⟨1, _⟩ => rfl

theorem block_ew (h : Layout.Tiles ⟨3, ![2, 256, 512]⟩ ⟨3, ![16, 256, 512]⟩ 0 8) (c : Fin 8) (a : Fin 2) (k : Fin 256) (f : Fin 512) :
    h.idx c (ix3 a k f) = ix3 (⟨c.val * 2 + a.val, by omega⟩ : Fin 16) k f := by
  funext t
  match t with
  | ⟨0, _⟩ => rfl
  | ⟨1, _⟩ => rfl
  | ⟨2, _⟩ => rfl

/-! ## The equation -/

/-- What the body computes from a device's blocks is the device's block of the reference's result, wherever tokens and
    router matrix are real. -/
theorem block_value (x : Cert.ReferenceIdeal.S4096x256.Idx → EReal) (w : S256x16.Idx → EReal) (r : Cert.ReferenceIdeal.S4096x1.Idx → BitVec 32)
    (ew : Cert.ReferenceIdeal.S16x256x512.Idx → EReal) (sw : S256x512.Idx → EReal) (E : Dev nD → S2x256x512.Idx → EReal) (c : Dev nD)
    (xb : S512x256.Idx → EReal) (rb : S512x1.Idx → BitVec 32)
    (hx : xb = Layout.block ⟨2, ![512, 256]⟩ ⟨2, ![4096, 256]⟩ 0 8 c x) (hr : rb = Layout.block ⟨2, ![512, 1]⟩ ⟨2, ![4096, 1]⟩ 0 8 c r)
    (hE : ∀ o : Dev nD, E o = Layout.block ⟨3, ![2, 256, 512]⟩ ⟨3, ![16, 256, 512]⟩ 0 8 o ew)
    (realx : ∀ j, IsReal (xb j)) (realw : ∀ j, IsReal (w j)) :
    result (F := Ideal) E c xb w rb sw = Layout.block ⟨2, ![512, 512]⟩ ⟨2, ![4096, 512]⟩ 0 8 c (Cert.ReferenceValue.value x w r ew sw) := by
  funext j
  obtain ⟨i, f, rfl⟩ : ∃ (i : Fin 512) (f : Fin 512), j = ix2 i f := ⟨j 0, j 1, funext fun a => by match a with | ⟨0, _⟩ => rfl | ⟨1, _⟩ => rfl⟩
  have hxi : ∀ k : Fin 256, xb (ix2 i k) = x (ix2 (⟨c.val * 512 + i.val, row_of c i⟩ : Fin 4096) k) := fun k => by
    rw [hx, Layout.block_apply, block_x]
  have hri : rb (ix2 i (0 : Fin 1)) = r (ix2 (⟨c.val * 512 + i.val, row_of c i⟩ : Fin 4096) (0 : Fin 1)) := by
    rw [hr, Layout.block_apply, block_r]
  refine (Cert.KernelValue.result_apply E c xb w rb sw (fun e k => ew (ix3 e k f)) i f (fun o a k => ?_)).trans ?_
  · rw [hE o, Layout.block_apply, block_ew]
    exact congrArg (fun e : Fin 16 => ew (ix3 e k f)) (Fin.ext (congrArg (· + a.val) (Nat.mul_comm _ _)))
  · rw [rows_agree _ _ _ _ _ (fun k => realx _) (fun k e => realw _), Layout.block_apply, block_out, Cert.ReferenceValue.value_apply, hri]
    rw [show (fun k => xb (ix2 i k)) = _ from funext hxi]

/-- Device c's result array, when every device holds its blocks of the reference's arguments. -/
theorem final_value (x : Cert.ReferenceIdeal.S4096x256.Idx → EReal) (w : S256x16.Idx → EReal) (r : Cert.ReferenceIdeal.S4096x1.Idx → BitVec 32)
    (ew : Cert.ReferenceIdeal.S16x256x512.Idx → EReal) (sw : S256x512.Idx → EReal)
    (hx : ∀ c : Dev nD, m ((c : Thread nD τ).loc main_arg0) = Layout.block ⟨2, ![512, 256]⟩ ⟨2, ![4096, 256]⟩ 0 8 c x)
    (hw : ∀ c : Dev nD, m ((c : Thread nD τ).loc main_arg1) = w)
    (hr : ∀ c : Dev nD, m ((c : Thread nD τ).loc main_arg2) = Layout.block ⟨2, ![512, 1]⟩ ⟨2, ![4096, 1]⟩ 0 8 c r)
    (he : ∀ c : Dev nD, m ((c : Thread nD τ).loc main_arg3) = Layout.block ⟨3, ![2, 256, 512]⟩ ⟨3, ![16, 256, 512]⟩ 0 8 c ew)
    (hs : ∀ c : Dev nD, m ((c : Thread nD τ).loc main_arg4) = sw)
    (hp : Cert.Pre_KernelIdeal_finite_routing_KernelIdeal (hPre_finite_routing_KernelIdeal := Cert.Finite.facts_kernel) m) (c : Dev nD) :
    finalA m ρ c (5 : Fin 6) = Layout.block ⟨2, ![512, 512]⟩ ⟨2, ![4096, 512]⟩ 0 8 c (Cert.ReferenceValue.value x w r ew sw) := by
  obtain ⟨realx, realw⟩ := Cert.Finite.reals m hp c
  have hpair : ∀ o : Dev nD, pairOf m ρ o = Layout.block ⟨3, ![2, 256, 512]⟩ ⟨3, ![16, 256, 512]⟩ 0 8 o ew := fun o =>
    (funext (pairOf_apply m ρ o)).trans ((ewIn_eq m ρ o).trans (he o))
  rw [final_5]
  unfold outAt
  rw [(rwIn_eq m ρ c).trans (hw c), (swIn_eq m ρ c).trans (hs c)]
  exact block_value x w r ew sw (pairOf m ρ) c (xIn m ρ c) (idxIn m ρ c) ((xIn_eq m ρ c).trans (hx c)) ((idxIn_eq m ρ c).trans (hr c)) hpair
    (fun j => by rw [xIn_eq]; exact realx j) (fun j => by rw [← hw c]; exact realw j)

/-- The two programs agree: whatever blocks of the reference's arguments the devices hold, wherever tokens and router
    matrix are real, each device's result is its block of the reference's. -/
theorem algebraic : Cert.algebraic_KernelIdeal_ReferenceIdeal_pre_finite_routing_KernelIdeal (hPre_finite_routing_KernelIdeal := Cert.Finite.facts_kernel) := by
  intro m ρ m' ρ' hp hb
  refine ⟨Cert.ReferenceValue.value (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun _ h c => ⟨(h.1 c (5 : Fin 6)).trans ?_, (h.1 c (0 : Fin 6)).trans (final_0 m ρ c), (h.1 c (1 : Fin 6)).trans (final_1 m ρ c),
      (h.1 c (2 : Fin 6)).trans (final_2 m ρ c), (h.1 c (3 : Fin 6)).trans (final_3 m ρ c), (h.1 c (4 : Fin 6)).trans (final_4 m ρ c)⟩) (run_main (F := Ideal) m ρ)
    exact final_value m ρ _ _ _ _ _ (fun c => (hb c).1) (fun c => (hb c).2.1) (fun c => (hb c).2.2.1) (fun c => (hb c).2.2.2.1) (fun c => (hb c).2.2.2.2) hp c
  · exact (θ_run Cert.ReferenceIdeal.defs _ _).mono (fun _ h => h 0) (Cert.ReferenceIdeal.Value.run (F := Ideal) m' ρ')

end Cert.Equation

end
-- ==== Proof.lean ====
/-
  The certificate's claims, put together: the frames of the kernel, of its idealization and of the
  reference, and the equation of the last two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Finite.facts_kernel, Cert.Finite.facts_reference,
  Cert.Frames.frame_kernel, Cert.Frames.frame_ideal, Cert.Frames.frame_ideal_finite, Cert.Frames.frame_reference, Cert.Frames.frame_reference_finite, trivial,
  Cert.Equation.algebraic⟩

end Cert.Proof

end
